-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_factors [hPre_finite_factors : Cert.Pre_finite_factors.Facts] (m : (ℓ : Loc Cert.KernelIdeal.nD Cert.KernelIdeal.τ Cert.KernelIdeal.sig) → Buf (Elt Ideal) ℓ) : Prop :=
  ∀ c : Dev Cert.KernelIdeal.nD,
    (Cert.Pre_finite_factors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_factors [hPre_finite_factors : Cert.Pre_finite_factors.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_factors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_factors [hKernelIdeal : Cert.KernelIdeal.Facts] [hPre_finite_factors : Cert.Pre_finite_factors.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_factors m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_factors [hReferenceIdeal : Cert.ReferenceIdeal.Facts] [hPre_finite_factors : Cert.Pre_finite_factors.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_factors m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_factors [hKernelIdeal : Cert.KernelIdeal.Facts] [hReferenceIdeal : Cert.ReferenceIdeal.Facts] [hPre_finite_factors : Cert.Pre_finite_factors.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_factors m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_factors : Cert.Pre_finite_factors.Facts),
    quiescent_Kernel (hKernel := hKernel)
    ∧ quiescent_KernelIdeal (hKernelIdeal := hKernelIdeal)
    ∧ quiescent_KernelIdeal_pre_finite_factors (hKernelIdeal := hKernelIdeal) (hPre_finite_factors := hPre_finite_factors)
    ∧ quiescent_ReferenceIdeal (hReferenceIdeal := hReferenceIdeal)
    ∧ quiescent_ReferenceIdeal_pre_finite_factors (hReferenceIdeal := hReferenceIdeal) (hPre_finite_factors := hPre_finite_factors)
    ∧ preserves_Kernel_KernelIdeal
    ∧ algebraic_KernelIdeal_ReferenceIdeal_pre_finite_factors (hKernelIdeal := hKernelIdeal) (hReferenceIdeal := hReferenceIdeal) (hPre_finite_factors := hPre_finite_factors)
-- ==== Pre_finite_factors.lean ====
abbrev S8x1024x32x32 : Shape := ⟨4, ![8, 1024, 32, 32]⟩
abbrev S256x1024x3x3 : Shape := ⟨4, ![256, 1024, 3, 3]⟩
abbrev S256 : Shape := ⟨1, ![256]⟩
abbrev S36x256x1x1 : Shape := ⟨4, ![36, 256, 1, 1]⟩
abbrev S36 : Shape := ⟨1, ![36]⟩
abbrev S18x256x1x1 : Shape := ⟨4, ![18, 256, 1, 1]⟩
abbrev S18 : Shape := ⟨1, ![18]⟩
abbrev S_ : Shape := ⟨0, ![]⟩

class Facts : Prop where
  bcast_S_S8x1024x32x32 : S_.BroadcastsInDim S8x1024x32x32 (![] : Fin 0 → Fin S8x1024x32x32.rank)
  reducesTo_S8x1024x32x32_S_d0_1_2_3 : S8x1024x32x32.ReducesTo [0, 1, 2, 3] S_
  h_S_ : 0 < S_.numel
  bcast_S_S256x1024x3x3 : S_.BroadcastsInDim S256x1024x3x3 (![] : Fin 0 → Fin S256x1024x3x3.rank)
  reducesTo_S256x1024x3x3_S_d0_1_2_3 : S256x1024x3x3.ReducesTo [0, 1, 2, 3] S_
  bcast_S_S36x256x1x1 : S_.BroadcastsInDim S36x256x1x1 (![] : Fin 0 → Fin S36x256x1x1.rank)
  reducesTo_S36x256x1x1_S_d0_1_2_3 : S36x256x1x1.ReducesTo [0, 1, 2, 3] S_
  bcast_S_S18x256x1x1 : S_.BroadcastsInDim S18x256x1x1 (![] : Fin 0 → Fin S18x256x1x1.rank)
  reducesTo_S18x256x1x1_S_d0_1_2_3 : S18x256x1x1.ReducesTo [0, 1, 2, 3] S_

variable [Facts]

def fn_part1 {F : FTy → Type} [FloatOps F] (main_v13 : IVec S_ 1) (main_v16 : IVec S18x256x1x1 1) : IVec S_ 1 :=
  let main_c_5 : IVec S_ 1 := constantI S_ 1 1#1
  let main_v17 : IVec S_ 1 := (fun x v => Host.reduce IntOp.andi x v reducesTo_S18x256x1x1_S_d0_1_2_3 h_S_) main_v16 main_c_5
  let main_v18 : IVec S_ 1 := andi main_v13 main_v17
  main_v18

def fn {F : FTy → Type} [FloatOps F] (main_arg0 : FVec F S8x1024x32x32 .f32) (main_arg1 : FVec F S256x1024x3x3 .f32) (main_arg2 : FVec F S256 .f32) (main_arg3 : FVec F S36x256x1x1 .f32) (main_arg4 : FVec F S36 .f32) (main_arg5 : FVec F S18x256x1x1 .f32) (main_arg6 : FVec F S18 .f32) : IVec S_ 1 :=
  let main_v0 : FVec F S8x1024x32x32 .f32 := Host.absf main_arg0
  let main_cst : FVec F S_ .f32 := constant S_ .f32 0x7F800000#32
  let main_v1 : FVec F S8x1024x32x32 .f32 := broadcastInDim S8x1024x32x32 ![] bcast_S_S8x1024x32x32 main_cst
  let main_v2 : IVec S8x1024x32x32 1 := cmpf .olt main_v0 main_v1
  let main_c : IVec S_ 1 := constantI S_ 1 1#1
  let main_v3 : IVec S_ 1 := (fun x v => Host.reduce IntOp.andi x v reducesTo_S8x1024x32x32_S_d0_1_2_3 h_S_) main_v2 main_c
  let main_v4 : FVec F S256x1024x3x3 .f32 := Host.absf main_arg1
  let main_cst_0 : FVec F S_ .f32 := constant S_ .f32 0x7F800000#32
  let main_v5 : FVec F S256x1024x3x3 .f32 := broadcastInDim S256x1024x3x3 ![] bcast_S_S256x1024x3x3 main_cst_0
  let main_v6 : IVec S256x1024x3x3 1 := cmpf .olt main_v4 main_v5
  let main_c_1 : IVec S_ 1 := constantI S_ 1 1#1
  let main_v7 : IVec S_ 1 := (fun x v => Host.reduce IntOp.andi x v reducesTo_S256x1024x3x3_S_d0_1_2_3 h_S_) main_v6 main_c_1
  let main_v8 : IVec S_ 1 := andi main_v3 main_v7
  let main_v9 : FVec F S36x256x1x1 .f32 := Host.absf main_arg3
  let main_cst_2 : FVec F S_ .f32 := constant S_ .f32 0x7F800000#32
  let main_v10 : FVec F S36x256x1x1 .f32 := broadcastInDim S36x256x1x1 ![] bcast_S_S36x256x1x1 main_cst_2
  let main_v11 : IVec S36x256x1x1 1 := cmpf .olt main_v9 main_v10
  let main_c_3 : IVec S_ 1 := constantI S_ 1 1#1
  let main_v12 : IVec S_ 1 := (fun x v => Host.reduce IntOp.andi x v reducesTo_S36x256x1x1_S_d0_1_2_3 h_S_) main_v11 main_c_3
  let main_v13 : IVec S_ 1 := andi main_v8 main_v12
  let main_v14 : FVec F S18x256x1x1 .f32 := Host.absf main_arg5
  let main_cst_4 : FVec F S_ .f32 := constant S_ .f32 0x7F800000#32
  let main_v15 : FVec F S18x256x1x1 .f32 := broadcastInDim S18x256x1x1 ![] bcast_S_S18x256x1x1 main_cst_4
  let main_v16 : IVec S18x256x1x1 1 := cmpf .olt main_v14 main_v15
  fn_part1 (F := F) main_v13 main_v16
-- ==== Kernel.lean ====
abbrev S8x1024x32x32 : Shape := ⟨4, ![8, 1024, 32, 32]⟩
abbrev S256x1024x3x3 : Shape := ⟨4, ![256, 1024, 3, 3]⟩
abbrev S256 : Shape := ⟨1, ![256]⟩
abbrev S36x256x1x1 : Shape := ⟨4, ![36, 256, 1, 1]⟩
abbrev S36 : Shape := ⟨1, ![36]⟩
abbrev S18x256x1x1 : Shape := ⟨4, ![18, 256, 1, 1]⟩
abbrev S18 : Shape := ⟨1, ![18]⟩
abbrev S36x1024 : Shape := ⟨2, ![36, 1024]⟩
abbrev S36x36 : Shape := ⟨2, ![36, 36]⟩
abbrev S9216x4 : Shape := ⟨2, ![9216, 4]⟩
abbrev S8x1024x1024 : Shape := ⟨3, ![8, 1024, 1024]⟩
abbrev S3x3x256x1024 : Shape := ⟨4, ![3, 3, 256, 1024]⟩
abbrev S2304x1024 : Shape := ⟨2, ![2304, 1024]⟩
abbrev S36x256 : Shape := ⟨2, ![36, 256]⟩
abbrev S18x256 : Shape := ⟨2, ![18, 256]⟩
abbrev S54x256 : Shape := ⟨2, ![54, 256]⟩
abbrev S1x256 : Shape := ⟨2, ![1, 256]⟩
abbrev S54 : Shape := ⟨1, ![54]⟩
abbrev S54x1 : Shape := ⟨2, ![54, 1]⟩
abbrev S486x1024 : Shape := ⟨2, ![486, 1024]⟩
abbrev S54x128 : Shape := ⟨2, ![54, 128]⟩
abbrev S256x1024 : Shape := ⟨2, ![256, 1024]⟩
abbrev S54x1024 : Shape := ⟨2, ![54, 1024]⟩
abbrev S8x36x1024 : Shape := ⟨3, ![8, 36, 1024]⟩
abbrev S8x18x1024 : Shape := ⟨3, ![8, 18, 1024]⟩
abbrev S1x1024x1024 : Shape := ⟨3, ![1, 1024, 1024]⟩
abbrev S1x36x1024 : Shape := ⟨3, ![1, 36, 1024]⟩
abbrev S1x18x1024 : Shape := ⟨3, ![1, 18, 1024]⟩
abbrev S1024x1024 : Shape := ⟨2, ![1024, 1024]⟩
abbrev S1x1024 : Shape := ⟨2, ![1, 1024]⟩
abbrev S18x1024 : Shape := ⟨2, ![18, 1024]⟩
abbrev S36x1 : Shape := ⟨2, ![36, 1]⟩
abbrev S8x1024x36 : Shape := ⟨3, ![8, 1024, 36]⟩
abbrev S8x9216x4 : Shape := ⟨3, ![8, 9216, 4]⟩
abbrev S8x1024x18 : Shape := ⟨3, ![8, 1024, 18]⟩
abbrev S8x9216x2 : Shape := ⟨3, ![8, 9216, 2]⟩
abbrev S1x9216x4 : Shape := ⟨3, ![1, 9216, 4]⟩
abbrev S1x1x1x9216x1x4 : Shape := ⟨6, ![1, 1, 1, 9216, 1, 4]⟩
abbrev S8x1x1x9216x1x4 : Shape := ⟨6, ![8, 1, 1, 9216, 1, 4]⟩

abbrev nBuf : Space → Nat
  | .hbm => 36
  | .vmem => 20
  | .smem => 0
  | _ => 0

abbrev bufTy : (tb : Table) → Fin (tcTables nBuf tb) → BufTy
  | .hbm, ⟨0, _⟩ => ⟨S8x1024x32x32, .f32⟩
  | .hbm, ⟨1, _⟩ => ⟨S256x1024x3x3, .f32⟩
  | .hbm, ⟨2, _⟩ => ⟨S256, .f32⟩
  | .hbm, ⟨3, _⟩ => ⟨S36x256x1x1, .f32⟩
  | .hbm, ⟨4, _⟩ => ⟨S36, .f32⟩
  | .hbm, ⟨5, _⟩ => ⟨S18x256x1x1, .f32⟩
  | .hbm, ⟨6, _⟩ => ⟨S18, .f32⟩
  | .hbm, ⟨7, _⟩ => ⟨S36x1024, .f32⟩
  | .hbm, ⟨8, _⟩ => ⟨S36x1024, .f32⟩
  | .hbm, ⟨9, _⟩ => ⟨S36x1024, .f32⟩
  | .hbm, ⟨10, _⟩ => ⟨S36x36, .f32⟩
  | .hbm, ⟨11, _⟩ => ⟨S9216x4, .f32⟩
  | .hbm, ⟨12, _⟩ => ⟨S8x1024x1024, .f32⟩
  | .hbm, ⟨13, _⟩ => ⟨S3x3x256x1024, .f32⟩
  | .hbm, ⟨14, _⟩ => ⟨S2304x1024, .f32⟩
  | .hbm, ⟨15, _⟩ => ⟨S36x256, .f32⟩
  | .hbm, ⟨16, _⟩ => ⟨S18x256, .f32⟩
  | .hbm, ⟨17, _⟩ => ⟨S54x256, .f32⟩
  | .hbm, ⟨18, _⟩ => ⟨S1x256, .f32⟩
  | .hbm, ⟨19, _⟩ => ⟨S54, .f32⟩
  | .hbm, ⟨20, _⟩ => ⟨S54x1, .f32⟩
  | .hbm, ⟨21, _⟩ => ⟨S486x1024, .f32⟩
  | .hbm, ⟨22, _⟩ => ⟨S54x128, .f32⟩
  | .hbm, ⟨23, _⟩ => ⟨S8x36x1024, .f32⟩
  | .hbm, ⟨24, _⟩ => ⟨S8x36x1024, .f32⟩
  | .hbm, ⟨25, _⟩ => ⟨S8x18x1024, .f32⟩
  | .hbm, ⟨26, _⟩ => ⟨S8x1024x36, .f32⟩
  | .hbm, ⟨27, _⟩ => ⟨S8x9216x4, .f32⟩
  | .hbm, ⟨28, _⟩ => ⟨S8x1024x36, .f32⟩
  | .hbm, ⟨29, _⟩ => ⟨S8x9216x4, .f32⟩
  | .hbm, ⟨30, _⟩ => ⟨S8x1024x18, .f32⟩
  | .hbm, ⟨31, _⟩ => ⟨S8x9216x2, .f32⟩
  | .hbm, ⟨32, _⟩ => ⟨S1x9216x4, .f32⟩
  | .hbm, ⟨33, _⟩ => ⟨S1x1x1x9216x1x4, .f32⟩
  | .hbm, ⟨34, _⟩ => ⟨S8x1x1x9216x1x4, .f32⟩
  | .hbm, ⟨35, _⟩ => ⟨S8x9216x4, .f32⟩
  | .local _ .vmem, ⟨0, _⟩ => ⟨S2304x1024, .f32⟩
  | .local _ .vmem, ⟨1, _⟩ => ⟨S54x256, .f32⟩
  | .local _ .vmem, ⟨2, _⟩ => ⟨S1x256, .f32⟩
  | .local _ .vmem, ⟨3, _⟩ => ⟨S54x1, .f32⟩
  | .local _ .vmem, ⟨4, _⟩ => ⟨S486x1024, .f32⟩
  | .local _ .vmem, ⟨5, _⟩ => ⟨S54x128, .f32⟩
  | .local _ .vmem, ⟨6, _⟩ => ⟨S1x1024x1024, .f32⟩
  | .local _ .vmem, ⟨7, _⟩ => ⟨S1x1024x1024, .f32⟩
  | .local _ .vmem, ⟨8, _⟩ => ⟨S486x1024, .f32⟩
  | .local _ .vmem, ⟨9, _⟩ => ⟨S54x128, .f32⟩
  | .local _ .vmem, ⟨10, _⟩ => ⟨S36x1024, .f32⟩
  | .local _ .vmem, ⟨11, _⟩ => ⟨S36x1024, .f32⟩
  | .local _ .vmem, ⟨12, _⟩ => ⟨S36x1024, .f32⟩
  | .local _ .vmem, ⟨13, _⟩ => ⟨S36x36, .f32⟩
  | .local _ .vmem, ⟨14, _⟩ => ⟨S1x36x1024, .f32⟩
  | .local _ .vmem, ⟨15, _⟩ => ⟨S1x36x1024, .f32⟩
  | .local _ .vmem, ⟨16, _⟩ => ⟨S1x36x1024, .f32⟩
  | .local _ .vmem, ⟨17, _⟩ => ⟨S1x36x1024, .f32⟩
  | .local _ .vmem, ⟨18, _⟩ => ⟨S1x18x1024, .f32⟩
  | .local _ .vmem, ⟨19, _⟩ => ⟨S1x18x1024, .f32⟩
  | _, _ => ⟨S8x1024x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_cst_3 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc1_sem8_0 : DmaSem sig := 16
abbrev cc1_sem8_1 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := .none

abbrev stage0_0 : Fin 1 → Memref sig .tc .vmem S2304x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S54x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S54x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S486x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S54x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S486x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S54x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S36x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S36x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S36x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S36x36 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x36x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x36x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x18x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S8x1024x32x32 : Shape := ⟨4, ![8, 1024, 32, 32]⟩
abbrev S256x1024x3x3 : Shape := ⟨4, ![256, 1024, 3, 3]⟩
abbrev S256 : Shape := ⟨1, ![256]⟩
abbrev S36x256x1x1 : Shape := ⟨4, ![36, 256, 1, 1]⟩
abbrev S36 : Shape := ⟨1, ![36]⟩
abbrev S18x256x1x1 : Shape := ⟨4, ![18, 256, 1, 1]⟩
abbrev S18 : Shape := ⟨1, ![18]⟩
abbrev S9216x4 : Shape := ⟨2, ![9216, 4]⟩
abbrev S_ : Shape := ⟨0, ![]⟩
abbrev S8x1024x34x34 : Shape := ⟨4, ![8, 1024, 34, 34]⟩
abbrev S256x1024x1x1 : Shape := ⟨4, ![256, 1024, 1, 1]⟩
abbrev S256x1024 : Shape := ⟨2, ![256, 1024]⟩
abbrev S8x32x32x256 : Shape := ⟨4, ![8, 32, 32, 256]⟩
abbrev S8x256x32x32 : Shape := ⟨4, ![8, 256, 32, 32]⟩
abbrev S1x256x1x1 : Shape := ⟨4, ![1, 256, 1, 1]⟩
abbrev S36x256 : Shape := ⟨2, ![36, 256]⟩
abbrev S8x32x32x36 : Shape := ⟨4, ![8, 32, 32, 36]⟩
abbrev S8x36x32x32 : Shape := ⟨4, ![8, 36, 32, 32]⟩
abbrev S1x36x1x1 : Shape := ⟨4, ![1, 36, 1, 1]⟩
abbrev S18x256 : Shape := ⟨2, ![18, 256]⟩
abbrev S8x32x32x18 : Shape := ⟨4, ![8, 32, 32, 18]⟩
abbrev S8x18x32x32 : Shape := ⟨4, ![8, 18, 32, 32]⟩
abbrev S1x18x1x1 : Shape := ⟨4, ![1, 18, 1, 1]⟩
abbrev S8x32x32x9x4 : Shape := ⟨5, ![8, 32, 32, 9, 4]⟩
abbrev S8x32x32x9x2 : Shape := ⟨5, ![8, 32, 32, 9, 2]⟩
abbrev S73728x4 : Shape := ⟨2, ![73728, 4]⟩
abbrev S1x9216x4 : Shape := ⟨3, ![1, 9216, 4]⟩
abbrev S1x1x1x9216x1x4 : Shape := ⟨6, ![1, 1, 1, 9216, 1, 4]⟩
abbrev S8x1x1x9216x1x4 : Shape := ⟨6, ![8, 1, 1, 9216, 1, 4]⟩
abbrev S8x9216x4 : Shape := ⟨3, ![8, 9216, 4]⟩
abbrev S73728x1 : Shape := ⟨2, ![73728, 1]⟩
abbrev S73728 : Shape := ⟨1, ![73728]⟩
abbrev S8x9216x2 : Shape := ⟨3, ![8, 9216, 2]⟩

abbrev nBuf : Space → Nat
  | .hbm => 138
  | .vmem => 0
  | .smem => 0
  | _ => 0

abbrev hbmTy0_0 (i : Nat) : BufTy := match i % 128 with
  | 0 => ⟨S8x1024x32x32, .f32⟩
  | 1 => ⟨S256x1024x3x3, .f32⟩
  | 2 => ⟨S256, .f32⟩
  | 3 => ⟨S36x256x1x1, .f32⟩
  | 4 => ⟨S36, .f32⟩
  | 5 => ⟨S18x256x1x1, .f32⟩
  | 6 => ⟨S18, .f32⟩
  | 7 => ⟨S9216x4, .f32⟩
  | 8 => ⟨S_, .i32⟩
  | 9 => ⟨S_, .f32⟩
  | 10 => ⟨S8x1024x34x34, .f32⟩
  | 11 => ⟨S256x1024x1x1, .f32⟩
  | 12 => ⟨S256x1024, .f32⟩
  | 13 => ⟨S8x1024x32x32, .f32⟩
  | 14 => ⟨S8x32x32x256, .f32⟩
  | 15 => ⟨S8x256x32x32, .f32⟩
  | 16 => ⟨S256x1024x1x1, .f32⟩
  | 17 => ⟨S256x1024, .f32⟩
  | 18 => ⟨S8x1024x32x32, .f32⟩
  | 19 => ⟨S8x32x32x256, .f32⟩
  | 20 => ⟨S8x256x32x32, .f32⟩
  | 21 => ⟨S8x256x32x32, .f32⟩
  | 22 => ⟨S256x1024x1x1, .f32⟩
  | 23 => ⟨S256x1024, .f32⟩
  | 24 => ⟨S8x1024x32x32, .f32⟩
  | 25 => ⟨S8x32x32x256, .f32⟩
  | 26 => ⟨S8x256x32x32, .f32⟩
  | 27 => ⟨S8x256x32x32, .f32⟩
  | 28 => ⟨S256x1024x1x1, .f32⟩
  | 29 => ⟨S256x1024, .f32⟩
  | 30 => ⟨S8x1024x32x32, .f32⟩
  | 31 => ⟨S8x32x32x256, .f32⟩
  | 32 => ⟨S8x256x32x32, .f32⟩
  | 33 => ⟨S8x256x32x32, .f32⟩
  | 34 => ⟨S256x1024x1x1, .f32⟩
  | 35 => ⟨S256x1024, .f32⟩
  | 36 => ⟨S8x1024x32x32, .f32⟩
  | 37 => ⟨S8x32x32x256, .f32⟩
  | 38 => ⟨S8x256x32x32, .f32⟩
  | 39 => ⟨S8x256x32x32, .f32⟩
  | 40 => ⟨S256x1024x1x1, .f32⟩
  | 41 => ⟨S256x1024, .f32⟩
  | 42 => ⟨S8x1024x32x32, .f32⟩
  | 43 => ⟨S8x32x32x256, .f32⟩
  | 44 => ⟨S8x256x32x32, .f32⟩
  | 45 => ⟨S8x256x32x32, .f32⟩
  | 46 => ⟨S256x1024x1x1, .f32⟩
  | 47 => ⟨S256x1024, .f32⟩
  | 48 => ⟨S8x1024x32x32, .f32⟩
  | 49 => ⟨S8x32x32x256, .f32⟩
  | 50 => ⟨S8x256x32x32, .f32⟩
  | 51 => ⟨S8x256x32x32, .f32⟩
  | 52 => ⟨S256x1024x1x1, .f32⟩
  | 53 => ⟨S256x1024, .f32⟩
  | 54 => ⟨S8x1024x32x32, .f32⟩
  | 55 => ⟨S8x32x32x256, .f32⟩
  | 56 => ⟨S8x256x32x32, .f32⟩
  | 57 => ⟨S8x256x32x32, .f32⟩
  | 58 => ⟨S256x1024x1x1, .f32⟩
  | 59 => ⟨S256x1024, .f32⟩
  | 60 => ⟨S8x1024x32x32, .f32⟩
  | 61 => ⟨S8x32x32x256, .f32⟩
  | 62 => ⟨S8x256x32x32, .f32⟩
  | 63 => ⟨S8x256x32x32, .f32⟩
  | 64 => ⟨S1x256x1x1, .f32⟩
  | 65 => ⟨S8x256x32x32, .f32⟩
  | 66 => ⟨S8x256x32x32, .f32⟩
  | 67 => ⟨S36x256, .f32⟩
  | 68 => ⟨S8x32x32x36, .f32⟩
  | 69 => ⟨S8x36x32x32, .f32⟩
  | 70 => ⟨S1x36x1x1, .f32⟩
  | 71 => ⟨S8x36x32x32, .f32⟩
  | 72 => ⟨S8x36x32x32, .f32⟩
  | 73 => ⟨S18x256, .f32⟩
  | 74 => ⟨S8x32x32x18, .f32⟩
  | 75 => ⟨S8x18x32x32, .f32⟩
  | 76 => ⟨S1x18x1x1, .f32⟩
  | 77 => ⟨S8x18x32x32, .f32⟩
  | 78 => ⟨S8x18x32x32, .f32⟩
  | 79 => ⟨S8x32x32x36, .f32⟩
  | 80 => ⟨S8x32x32x9x4, .f32⟩
  | 81 => ⟨S8x32x32x18, .f32⟩
  | 82 => ⟨S8x32x32x9x2, .f32⟩
  | 83 => ⟨S73728x4, .f32⟩
  | 84 => ⟨S1x9216x4, .f32⟩
  | 85 => ⟨S1x1x1x9216x1x4, .f32⟩
  | 86 => ⟨S8x1x1x9216x1x4, .f32⟩
  | 87 => ⟨S8x9216x4, .f32⟩
  | 88 => ⟨S73728x4, .f32⟩
  | 89 => ⟨S73728x1, .f32⟩
  | 90 => ⟨S73728, .f32⟩
  | 91 => ⟨S73728x1, .f32⟩
  | 92 => ⟨S73728, .f32⟩
  | 93 => ⟨S73728x1, .f32⟩
  | 94 => ⟨S73728, .f32⟩
  | 95 => ⟨S73728x1, .f32⟩
  | 96 => ⟨S73728, .f32⟩
  | 97 => ⟨S_, .f32⟩
  | 98 => ⟨S73728, .f32⟩
  | 99 => ⟨S73728, .f32⟩
  | 100 => ⟨S73728, .f32⟩
  | 101 => ⟨S_, .f32⟩
  | 102 => ⟨S73728, .f32⟩
  | 103 => ⟨S73728, .f32⟩
  | 104 => ⟨S73728, .f32⟩
  | 105 => ⟨S73728x1, .f32⟩
  | 106 => ⟨S73728, .f32⟩
  | 107 => ⟨S73728x1, .f32⟩
  | 108 => ⟨S73728, .f32⟩
  | 109 => ⟨S73728x1, .f32⟩
  | 110 => ⟨S73728, .f32⟩
  | 111 => ⟨S73728x1, .f32⟩
  | 112 => ⟨S73728, .f32⟩
  | 113 => ⟨S73728, .f32⟩
  | 114 => ⟨S73728, .f32⟩
  | 115 => ⟨S73728, .f32⟩
  | 116 => ⟨S73728, .f32⟩
  | 117 => ⟨S73728, .f32⟩
  | 118 => ⟨S73728, .f32⟩
  | 119 => ⟨S73728, .f32⟩
  | 120 => ⟨S73728, .f32⟩
  | 121 => ⟨S_, .f32⟩
  | 122 => ⟨S73728, .f32⟩
  | 123 => ⟨S73728, .f32⟩
  | 124 => ⟨S73728, .f32⟩
  | 125 => ⟨S_, .f32⟩
  | 126 => ⟨S73728, .f32⟩
  | 127 => ⟨S73728, .f32⟩
  | _ => ⟨S8x1024x32x32, .f32⟩

abbrev hbmTy0_1 (i : Nat) : BufTy := match i % 128 with
  | 0 => ⟨S73728, .f32⟩
  | 1 => ⟨S73728x1, .f32⟩
  | 2 => ⟨S73728x1, .f32⟩
  | 3 => ⟨S73728x1, .f32⟩
  | 4 => ⟨S73728x1, .f32⟩
  | 5 => ⟨S73728x4, .f32⟩
  | 6 => ⟨S8x9216x4, .f32⟩
  | 7 => ⟨S8x9216x4, .f32⟩
  | 8 => ⟨S8x9216x2, .f32⟩
  | 9 => ⟨S8x9216x4, .f32⟩
  | _ => ⟨S8x1024x32x32, .f32⟩

abbrev hbmTy (i : Nat) : BufTy := match i / 128 with
  | 0 => hbmTy0_0 i
  | 1 => hbmTy0_1 i
  | _ => ⟨S8x1024x32x32, .f32⟩

abbrev bufTy : (tb : Table) → Fin (tcTables nBuf tb) → BufTy
  | .hbm, ⟨i, _⟩ => hbmTy i
  | _, _ => ⟨S8x1024x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_0 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_1 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_cst_2 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_cst_3 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩

abbrev nD : Nat := 1
abbrev τ : Topo := Topo.v7x

variable {F : FTy → Type} [FloatOps F]
-- ==== Proof.Own.RefRun.lean ====
/- The reference program as four stretches of host operations — the 3×3 convolution, the two 1×1 convolutions, the
   anchors, the decoding — and its run: every buffer ends at the fold of the four stretches over the launch contents. -/
module

public import proofs.«01_k».proof.Proof.Gen.ReferenceIdeal
public import Idealize.ShloMosaic.Lib.StableHlo.Run

@[expose] public section

set_option maxRecDepth 8192
set_option maxHeartbeats 4000000

noncomputable section

namespace Cert.ReferenceIdeal.Own

open Cert.ReferenceIdeal Cert.ReferenceIdeal.Gen Idealize.ShloMosaic Idealize.ShloMosaic.TcCoe Idealize.SL.Sem Idealize.ShloMosaic.StableHlo

variable {F : FTy → Type} [FloatOps F]

/-- Stacking the four decoded columns, by name. -/
def stack4 (u0 u1 u2 u3 : (⟨S73728x1, .f32⟩ : BufTy).Contents (Elt F)) : (⟨S73728x4, .f32⟩ : BufTy).Contents (Elt F) :=
  concatenate S73728x4 1 [⟨S73728x1, u0⟩, ⟨S73728x1, u1⟩, ⟨S73728x1, u2⟩, ⟨S73728x1, u3⟩] concatenates_S73728x1_S73728x1_S73728x1_S73728x1_S73728x4_d1

/-- The 3×3 convolution. -/
abbrev opsA : List (HloOp τ sig (Elt F)) :=
  [ nullary main_cst (fun i => FloatOps.ofBits .f32 (lit0 (S9216x4.rowMajor i))),
    nullary main_c (constantI S_ 32 0#32),
    TRef.unary (TRef.of (T := ⟨S_, .i32⟩) main_c) (TRef.of (T := ⟨S_, .f32⟩) main_call0_v0) (sitofp .f32),
    TRef.binary (TRef.of (T := ⟨S8x1024x32x32, .f32⟩) main_arg0) (TRef.of (T := ⟨S_, .f32⟩) main_call0_v0) (TRef.of (T := ⟨S8x1024x34x34, .f32⟩) main_v0) (fun x v => pad S8x1024x34x34 ![0, 0, 1, 1] ![0, 0, 1, 1] ![0, 0, 0, 0] x v pads_S8x1024x32x32_S8x1024x34x34_000_000_110_110 h_S_),
    unary main_arg1 main_v1 ((extractStridedSlice S256x1024x1x1 ![0, 0, 0, 0] · slices_S256x1024x3x3_S256x1024x1x1_0_0_0_0) : (⟨S256x1024x3x3, .f32⟩ : BufTy).Contents (Elt F) → (⟨S256x1024x1x1, .f32⟩ : BufTy).Contents (Elt F)),
    reshape main_v1 main_v2 (rfl : (.f32 : EltTy) = .f32) shapeCasts_S256x1024x1x1_S256x1024,
    unary main_v0 main_v3 ((extractStridedSlice S8x1024x32x32 ![0, 0, 0, 0] · slices_S8x1024x34x34_S8x1024x32x32_0_0_0_0) : (⟨S8x1024x34x34, .f32⟩ : BufTy).Contents (Elt F) → (⟨S8x1024x32x32, .f32⟩ : BufTy).Contents (Elt F)),
    binary main_v3 main_v2 main_v4 ((fun l r => Host.dotGeneral dot_S8x1024x32x32_S256x1024_S8x32x32x256_1_1_023_0_n_n none l r) : (⟨S8x1024x32x32, .f32⟩ : BufTy).Contents (Elt F) → (⟨S256x1024, .f32⟩ : BufTy).Contents (Elt F) → (⟨S8x32x32x256, .f32⟩ : BufTy).Contents (Elt F)),
    unary main_v4 main_v5 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)),
    unary main_arg1 main_v6 ((extractStridedSlice S256x1024x1x1 ![0, 0, 0, 1] · slices_S256x1024x3x3_S256x1024x1x1_0_0_0_1) : (⟨S256x1024x3x3, .f32⟩ : BufTy).Contents (Elt F) → (⟨S256x1024x1x1, .f32⟩ : BufTy).Contents (Elt F)),
    reshape main_v6 main_v7 (rfl : (.f32 : EltTy) = .f32) shapeCasts_S256x1024x1x1_S256x1024,
    unary main_v0 main_v8 ((extractStridedSlice S8x1024x32x32 ![0, 0, 0, 1] · slices_S8x1024x34x34_S8x1024x32x32_0_0_0_1) : (⟨S8x1024x34x34, .f32⟩ : BufTy).Contents (Elt F) → (⟨S8x1024x32x32, .f32⟩ : BufTy).Contents (Elt F)),
    binary main_v8 main_v7 main_v9 ((fun l r => Host.dotGeneral dot_S8x1024x32x32_S256x1024_S8x32x32x256_1_1_023_0_n_n none l r) : (⟨S8x1024x32x32, .f32⟩ : BufTy).Contents (Elt F) → (⟨S256x1024, .f32⟩ : BufTy).Contents (Elt F) → (⟨S8x32x32x256, .f32⟩ : BufTy).Contents (Elt F)),
    unary main_v9 main_v10 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)),
    binary main_v5 main_v10 main_v11 (addf : (⟨S8x256x32x32, .f32⟩ : BufTy).Contents (Elt F) → (⟨S8x256x32x32, .f32⟩ : BufTy).Contents (Elt F) → (⟨S8x256x32x32, .f32⟩ : BufTy).Contents (Elt F)),
    unary main_arg1 main_v12 ((extractStridedSlice S256x1024x1x1 ![0, 0, 0, 2] · slices_S256x1024x3x3_S256x1024x1x1_0_0_0_2) : (⟨S256x1024x3x3, .f32⟩ : BufTy).Contents (Elt F) → (⟨S256x1024x1x1, .f32⟩ : BufTy).Contents (Elt F)),
    reshape main_v12 main_v13 (rfl : (.f32 : EltTy) = .f32) shapeCasts_S256x1024x1x1_S256x1024,
    unary main_v0 main_v14 ((extractStridedSlice S8x1024x32x32 ![0, 0, 0, 2] · slices_S8x1024x34x34_S8x1024x32x32_0_0_0_2) : (⟨S8x1024x34x34, .f32⟩ : BufTy).Contents (Elt F) → (⟨S8x1024x32x32, .f32⟩ : BufTy).Contents (Elt F)),
    binary main_v14 main_v13 main_v15 ((fun l r => Host.dotGeneral dot_S8x1024x32x32_S256x1024_S8x32x32x256_1_1_023_0_n_n none l r) : (⟨S8x1024x32x32, .f32⟩ : BufTy).Contents (Elt F) → (⟨S256x1024, .f32⟩ : BufTy).Contents (Elt F) → (⟨S8x32x32x256, .f32⟩ : BufTy).Contents (Elt F)),
    unary main_v15 main_v16 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)),
    binary main_v11 main_v16 main_v17 (addf : (⟨S8x256x32x32, .f32⟩ : BufTy).Contents (Elt F) → (⟨S8x256x32x32, .f32⟩ : BufTy).Contents (Elt F) → (⟨S8x256x32x32, .f32⟩ : BufTy).Contents (Elt F)),
    unary main_arg1 main_v18 ((extractStridedSlice S256x1024x1x1 ![0, 0, 1, 0] · slices_S256x1024x3x3_S256x1024x1x1_0_0_1_0) : (⟨S256x1024x3x3, .f32⟩ : BufTy).Contents (Elt F) → (⟨S256x1024x1x1, .f32⟩ : BufTy).Contents (Elt F)),
    reshape main_v18 main_v19 (rfl : (.f32 : EltTy) = .f32) shapeCasts_S256x1024x1x1_S256x1024,
    unary main_v0 main_v20 ((extractStridedSlice S8x1024x32x32 ![0, 0, 1, 0] · slices_S8x1024x34x34_S8x1024x32x32_0_0_1_0) : (⟨S8x1024x34x34, .f32⟩ : BufTy).Contents (Elt F) → (⟨S8x1024x32x32, .f32⟩ : BufTy).Contents (Elt F)),
    binary main_v20 main_v19 main_v21 ((fun l r => Host.dotGeneral dot_S8x1024x32x32_S256x1024_S8x32x32x256_1_1_023_0_n_n none l r) : (⟨S8x1024x32x32, .f32⟩ : BufTy).Contents (Elt F) → (⟨S256x1024, .f32⟩ : BufTy).Contents (Elt F) → (⟨S8x32x32x256, .f32⟩ : BufTy).Contents (Elt F)),
    unary main_v21 main_v22 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)),
    binary main_v17 main_v22 main_v23 (addf : (⟨S8x256x32x32, .f32⟩ : BufTy).Contents (Elt F) → (⟨S8x256x32x32, .f32⟩ : BufTy).Contents (Elt F) → (⟨S8x256x32x32, .f32⟩ : BufTy).Contents (Elt F)),
    unary main_arg1 main_v24 ((extractStridedSlice S256x1024x1x1 ![0, 0, 1, 1] · slices_S256x1024x3x3_S256x1024x1x1_0_0_1_1) : (⟨S256x1024x3x3, .f32⟩ : BufTy).Contents (Elt F) → (⟨S256x1024x1x1, .f32⟩ : BufTy).Contents (Elt F)),
    reshape main_v24 main_v25 (rfl : (.f32 : EltTy) = .f32) shapeCasts_S256x1024x1x1_S256x1024,
    unary main_v0 main_v26 ((extractStridedSlice S8x1024x32x32 ![0, 0, 1, 1] · slices_S8x1024x34x34_S8x1024x32x32_0_0_1_1) : (⟨S8x1024x34x34, .f32⟩ : BufTy).Contents (Elt F) → (⟨S8x1024x32x32, .f32⟩ : BufTy).Contents (Elt F)),
    binary main_v26 main_v25 main_v27 ((fun l r => Host.dotGeneral dot_S8x1024x32x32_S256x1024_S8x32x32x256_1_1_023_0_n_n none l r) : (⟨S8x1024x32x32, .f32⟩ : BufTy).Contents (Elt F) → (⟨S256x1024, .f32⟩ : BufTy).Contents (Elt F) → (⟨S8x32x32x256, .f32⟩ : BufTy).Contents (Elt F)),
    unary main_v27 main_v28 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)),
    binary main_v23 main_v28 main_v29 (addf : (⟨S8x256x32x32, .f32⟩ : BufTy).Contents (Elt F) → (⟨S8x256x32x32, .f32⟩ : BufTy).Contents (Elt F) → (⟨S8x256x32x32, .f32⟩ : BufTy).Contents (Elt F)),
    unary main_arg1 main_v30 ((extractStridedSlice S256x1024x1x1 ![0, 0, 1, 2] · slices_S256x1024x3x3_S256x1024x1x1_0_0_1_2) : (⟨S256x1024x3x3, .f32⟩ : BufTy).Contents (Elt F) → (⟨S256x1024x1x1, .f32⟩ : BufTy).Contents (Elt F)),
    reshape main_v30 main_v31 (rfl : (.f32 : EltTy) = .f32) shapeCasts_S256x1024x1x1_S256x1024,
    unary main_v0 main_v32 ((extractStridedSlice S8x1024x32x32 ![0, 0, 1, 2] · slices_S8x1024x34x34_S8x1024x32x32_0_0_1_2) : (⟨S8x1024x34x34, .f32⟩ : BufTy).Contents (Elt F) → (⟨S8x1024x32x32, .f32⟩ : BufTy).Contents (Elt F)),
    binary main_v32 main_v31 main_v33 ((fun l r => Host.dotGeneral dot_S8x1024x32x32_S256x1024_S8x32x32x256_1_1_023_0_n_n none l r) : (⟨S8x1024x32x32, .f32⟩ : BufTy).Contents (Elt F) → (⟨S256x1024, .f32⟩ : BufTy).Contents (Elt F) → (⟨S8x32x32x256, .f32⟩ : BufTy).Contents (Elt F)),
    unary main_v33 main_v34 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)),
    binary main_v29 main_v34 main_v35 (addf : (⟨S8x256x32x32, .f32⟩ : BufTy).Contents (Elt F) → (⟨S8x256x32x32, .f32⟩ : BufTy).Contents (Elt F) → (⟨S8x256x32x32, .f32⟩ : BufTy).Contents (Elt F)),
    unary main_arg1 main_v36 ((extractStridedSlice S256x1024x1x1 ![0, 0, 2, 0] · slices_S256x1024x3x3_S256x1024x1x1_0_0_2_0) : (⟨S256x1024x3x3, .f32⟩ : BufTy).Contents (Elt F) → (⟨S256x1024x1x1, .f32⟩ : BufTy).Contents (Elt F)),
    reshape main_v36 main_v37 (rfl : (.f32 : EltTy) = .f32) shapeCasts_S256x1024x1x1_S256x1024,
    unary main_v0 main_v38 ((extractStridedSlice S8x1024x32x32 ![0, 0, 2, 0] · slices_S8x1024x34x34_S8x1024x32x32_0_0_2_0) : (⟨S8x1024x34x34, .f32⟩ : BufTy).Contents (Elt F) → (⟨S8x1024x32x32, .f32⟩ : BufTy).Contents (Elt F)),
    binary main_v38 main_v37 main_v39 ((fun l r => Host.dotGeneral dot_S8x1024x32x32_S256x1024_S8x32x32x256_1_1_023_0_n_n none l r) : (⟨S8x1024x32x32, .f32⟩ : BufTy).Contents (Elt F) → (⟨S256x1024, .f32⟩ : BufTy).Contents (Elt F) → (⟨S8x32x32x256, .f32⟩ : BufTy).Contents (Elt F)),
    unary main_v39 main_v40 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)),
    binary main_v35 main_v40 main_v41 (addf : (⟨S8x256x32x32, .f32⟩ : BufTy).Contents (Elt F) → (⟨S8x256x32x32, .f32⟩ : BufTy).Contents (Elt F) → (⟨S8x256x32x32, .f32⟩ : BufTy).Contents (Elt F)),
    unary main_arg1 main_v42 ((extractStridedSlice S256x1024x1x1 ![0, 0, 2, 1] · slices_S256x1024x3x3_S256x1024x1x1_0_0_2_1) : (⟨S256x1024x3x3, .f32⟩ : BufTy).Contents (Elt F) → (⟨S256x1024x1x1, .f32⟩ : BufTy).Contents (Elt F)),
    reshape main_v42 main_v43 (rfl : (.f32 : EltTy) = .f32) shapeCasts_S256x1024x1x1_S256x1024,
    unary main_v0 main_v44 ((extractStridedSlice S8x1024x32x32 ![0, 0, 2, 1] · slices_S8x1024x34x34_S8x1024x32x32_0_0_2_1) : (⟨S8x1024x34x34, .f32⟩ : BufTy).Contents (Elt F) → (⟨S8x1024x32x32, .f32⟩ : BufTy).Contents (Elt F)),
    binary main_v44 main_v43 main_v45 ((fun l r => Host.dotGeneral dot_S8x1024x32x32_S256x1024_S8x32x32x256_1_1_023_0_n_n none l r) : (⟨S8x1024x32x32, .f32⟩ : BufTy).Contents (Elt F) → (⟨S256x1024, .f32⟩ : BufTy).Contents (Elt F) → (⟨S8x32x32x256, .f32⟩ : BufTy).Contents (Elt F)),
    unary main_v45 main_v46 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)),
    binary main_v41 main_v46 main_v47 (addf : (⟨S8x256x32x32, .f32⟩ : BufTy).Contents (Elt F) → (⟨S8x256x32x32, .f32⟩ : BufTy).Contents (Elt F) → (⟨S8x256x32x32, .f32⟩ : BufTy).Contents (Elt F)),
    unary main_arg1 main_v48 ((extractStridedSlice S256x1024x1x1 ![0, 0, 2, 2] · slices_S256x1024x3x3_S256x1024x1x1_0_0_2_2) : (⟨S256x1024x3x3, .f32⟩ : BufTy).Contents (Elt F) → (⟨S256x1024x1x1, .f32⟩ : BufTy).Contents (Elt F)),
    reshape main_v48 main_v49 (rfl : (.f32 : EltTy) = .f32) shapeCasts_S256x1024x1x1_S256x1024,
    unary main_v0 main_v50 ((extractStridedSlice S8x1024x32x32 ![0, 0, 2, 2] · slices_S8x1024x34x34_S8x1024x32x32_0_0_2_2) : (⟨S8x1024x34x34, .f32⟩ : BufTy).Contents (Elt F) → (⟨S8x1024x32x32, .f32⟩ : BufTy).Contents (Elt F)),
    binary main_v50 main_v49 main_v51 ((fun l r => Host.dotGeneral dot_S8x1024x32x32_S256x1024_S8x32x32x256_1_1_023_0_n_n none l r) : (⟨S8x1024x32x32, .f32⟩ : BufTy).Contents (Elt F) → (⟨S256x1024, .f32⟩ : BufTy).Contents (Elt F) → (⟨S8x32x32x256, .f32⟩ : BufTy).Contents (Elt F)),
    unary main_v51 main_v52 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)),
    binary main_v47 main_v52 main_v53 (addf : (⟨S8x256x32x32, .f32⟩ : BufTy).Contents (Elt F) → (⟨S8x256x32x32, .f32⟩ : BufTy).Contents (Elt F) → (⟨S8x256x32x32, .f32⟩ : BufTy).Contents (Elt F)),
    unary main_arg2 main_v54 (broadcastInDim S1x256x1x1 ![1] bcast_S256_S1x256x1x1_1 : (⟨S256, .f32⟩ : BufTy).Contents (Elt F) → (⟨S1x256x1x1, .f32⟩ : BufTy).Contents (Elt F)),
    unary main_v54 main_v55 (broadcastInDim S8x256x32x32 ![0, 1, 2, 3] bcast_S1x256x1x1_S8x256x32x32_0_1_2_3 : (⟨S1x256x1x1, .f32⟩ : BufTy).Contents (Elt F) → (⟨S8x256x32x32, .f32⟩ : BufTy).Contents (Elt F)),
    binary main_v53 main_v55 main_v56 (addf : (⟨S8x256x32x32, .f32⟩ : BufTy).Contents (Elt F) → (⟨S8x256x32x32, .f32⟩ : BufTy).Contents (Elt F) → (⟨S8x256x32x32, .f32⟩ : BufTy).Contents (Elt F)) ]

/-- The first stretch stays within the declared buffers. -/
theorem opsA_sub : (opsA : List (HloOp τ sig (Elt F))).Forall fun op => op.bufs ⊆ tcRefs τ sig :=
  ⟨nullary_bufs_sub .., nullary_bufs_sub .., unary_bufs_sub .., binary_bufs_sub .., unary_bufs_sub .., reshape_bufs_sub .., unary_bufs_sub .., binary_bufs_sub .., unary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., unary_bufs_sub .., binary_bufs_sub ..⟩

/-- The first stretch takes no fresh buffer. -/
theorem opsA_fresh : ∀ op ∈ (opsA : List (HloOp τ sig (Elt F))), op.fresh = ∅ := by
  intro _ h; (repeat (cases h with | head => rfl | tail _ h => ?_)); exact nomatch h

/-- What the stretch writes. -/
abbrev opsA_W : List (Ref sig .tc) := [main_cst, main_c, main_call0_v0, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56]

/-- What the first stretch writes. -/
theorem opsA_writes : (opsA : List (HloOp τ sig (Elt F))).Forall fun op => op.writes ⊆ (opsA_W.map (Proc.devRef (τ := τ) .tc)).toFinset :=
  forall_writes_sub_of_map rfl

/-- The two 1×1 convolutions and their layouts. -/
abbrev opsB : List (HloOp τ sig (Elt F)) :=
  [ reshape main_arg3 main_v57 (rfl : (.f32 : EltTy) = .f32) shapeCasts_S36x256x1x1_S36x256,
    binary main_v56 main_v57 main_v58 ((fun l r => Host.dotGeneral dot_S8x256x32x32_S36x256_S8x32x32x36_1_1_023_0_n_n none l r) : (⟨S8x256x32x32, .f32⟩ : BufTy).Contents (Elt F) → (⟨S36x256, .f32⟩ : BufTy).Contents (Elt F) → (⟨S8x32x32x36, .f32⟩ : BufTy).Contents (Elt F)),
    unary main_v58 main_v59 ((transpose S8x36x32x32 [0, 3, 1, 2] · transposes_S8x32x32x36_S8x36x32x32_0_3_1_2) : (⟨S8x32x32x36, .f32⟩ : BufTy).Contents (Elt F) → (⟨S8x36x32x32, .f32⟩ : BufTy).Contents (Elt F)),
    unary main_arg4 main_v60 (broadcastInDim S1x36x1x1 ![1] bcast_S36_S1x36x1x1_1 : (⟨S36, .f32⟩ : BufTy).Contents (Elt F) → (⟨S1x36x1x1, .f32⟩ : BufTy).Contents (Elt F)),
    unary main_v60 main_v61 (broadcastInDim S8x36x32x32 ![0, 1, 2, 3] bcast_S1x36x1x1_S8x36x32x32_0_1_2_3 : (⟨S1x36x1x1, .f32⟩ : BufTy).Contents (Elt F) → (⟨S8x36x32x32, .f32⟩ : BufTy).Contents (Elt F)),
    binary main_v59 main_v61 main_v62 (addf : (⟨S8x36x32x32, .f32⟩ : BufTy).Contents (Elt F) → (⟨S8x36x32x32, .f32⟩ : BufTy).Contents (Elt F) → (⟨S8x36x32x32, .f32⟩ : BufTy).Contents (Elt F)),
    reshape main_arg5 main_v63 (rfl : (.f32 : EltTy) = .f32) shapeCasts_S18x256x1x1_S18x256,
    binary main_v56 main_v63 main_v64 ((fun l r => Host.dotGeneral dot_S8x256x32x32_S18x256_S8x32x32x18_1_1_023_0_n_n none l r) : (⟨S8x256x32x32, .f32⟩ : BufTy).Contents (Elt F) → (⟨S18x256, .f32⟩ : BufTy).Contents (Elt F) → (⟨S8x32x32x18, .f32⟩ : BufTy).Contents (Elt F)),
    unary main_v64 main_v65 ((transpose S8x18x32x32 [0, 3, 1, 2] · transposes_S8x32x32x18_S8x18x32x32_0_3_1_2) : (⟨S8x32x32x18, .f32⟩ : BufTy).Contents (Elt F) → (⟨S8x18x32x32, .f32⟩ : BufTy).Contents (Elt F)),
    unary main_arg6 main_v66 (broadcastInDim S1x18x1x1 ![1] bcast_S18_S1x18x1x1_1 : (⟨S18, .f32⟩ : BufTy).Contents (Elt F) → (⟨S1x18x1x1, .f32⟩ : BufTy).Contents (Elt F)),
    unary main_v66 main_v67 (broadcastInDim S8x18x32x32 ![0, 1, 2, 3] bcast_S1x18x1x1_S8x18x32x32_0_1_2_3 : (⟨S1x18x1x1, .f32⟩ : BufTy).Contents (Elt F) → (⟨S8x18x32x32, .f32⟩ : BufTy).Contents (Elt F)),
    binary main_v65 main_v67 main_v68 (addf : (⟨S8x18x32x32, .f32⟩ : BufTy).Contents (Elt F) → (⟨S8x18x32x32, .f32⟩ : BufTy).Contents (Elt F) → (⟨S8x18x32x32, .f32⟩ : BufTy).Contents (Elt F)),
    unary main_v62 main_v69 ((transpose S8x32x32x36 [0, 2, 3, 1] · transposes_S8x36x32x32_S8x32x32x36_0_2_3_1) : (⟨S8x36x32x32, .f32⟩ : BufTy).Contents (Elt F) → (⟨S8x32x32x36, .f32⟩ : BufTy).Contents (Elt F)),
    reshape main_v69 main_v70 (rfl : (.f32 : EltTy) = .f32) shapeCasts_S8x32x32x36_S8x32x32x9x4,
    unary main_v68 main_v71 ((transpose S8x32x32x18 [0, 2, 3, 1] · transposes_S8x18x32x32_S8x32x32x18_0_2_3_1) : (⟨S8x18x32x32, .f32⟩ : BufTy).Contents (Elt F) → (⟨S8x32x32x18, .f32⟩ : BufTy).Contents (Elt F)),
    reshape main_v71 main_v72 (rfl : (.f32 : EltTy) = .f32) shapeCasts_S8x32x32x18_S8x32x32x9x2,
    reshape main_v70 main_v73 (rfl : (.f32 : EltTy) = .f32) shapeCasts_S8x32x32x9x4_S73728x4 ]

/-- The second stretch stays within the declared buffers. -/
theorem opsB_sub : (opsB : List (HloOp τ sig (Elt F))).Forall fun op => op.bufs ⊆ tcRefs τ sig :=
  ⟨reshape_bufs_sub .., binary_bufs_sub .., unary_bufs_sub .., unary_bufs_sub .., unary_bufs_sub .., binary_bufs_sub .., reshape_bufs_sub .., binary_bufs_sub .., unary_bufs_sub .., unary_bufs_sub .., unary_bufs_sub .., binary_bufs_sub .., unary_bufs_sub .., reshape_bufs_sub .., unary_bufs_sub .., reshape_bufs_sub .., reshape_bufs_sub ..⟩

/-- The second stretch takes no fresh buffer. -/
theorem opsB_fresh : ∀ op ∈ (opsB : List (HloOp τ sig (Elt F))), op.fresh = ∅ := by
  intro _ h; (repeat (cases h with | head => rfl | tail _ h => ?_)); exact nomatch h

/-- What the stretch writes. -/
abbrev opsB_W : List (Ref sig .tc) := [main_v57, main_v58, main_v59, main_v60, main_v61, main_v62, main_v63, main_v64, main_v65, main_v66, main_v67, main_v68, main_v69, main_v70, main_v71, main_v72, main_v73]

/-- What the second stretch writes. -/
theorem opsB_writes : (opsB : List (HloOp τ sig (Elt F))).Forall fun op => op.writes ⊆ (opsB_W.map (Proc.devRef (τ := τ) .tc)).toFinset :=
  forall_writes_sub_of_map rfl

/-- The anchors, repeated per image, and their centres. -/
abbrev opsC : List (HloOp τ sig (Elt F)) :=
  [ unary main_cst main_v74 (broadcastInDim S1x9216x4 ![1, 2] bcast_S9216x4_S1x9216x4_1_2 : (⟨S9216x4, .f32⟩ : BufTy).Contents (Elt F) → (⟨S1x9216x4, .f32⟩ : BufTy).Contents (Elt F)),
    reshape main_v74 main_v75 (rfl : (.f32 : EltTy) = .f32) shapeCasts_S1x9216x4_S1x1x1x9216x1x4,
    unary main_v75 main_v76 (broadcastInDim S8x1x1x9216x1x4 ![0, 1, 2, 3, 4, 5] bcast_S1x1x1x9216x1x4_S8x1x1x9216x1x4_0_1_2_3_4_5 : (⟨S1x1x1x9216x1x4, .f32⟩ : BufTy).Contents (Elt F) → (⟨S8x1x1x9216x1x4, .f32⟩ : BufTy).Contents (Elt F)),
    reshape main_v76 main_v77 (rfl : (.f32 : EltTy) = .f32) shapeCasts_S8x1x1x9216x1x4_S8x9216x4,
    reshape main_v77 main_v78 (rfl : (.f32 : EltTy) = .f32) shapeCasts_S8x9216x4_S73728x4,
    unary main_v78 main_v79 ((extractStridedSlice S73728x1 ![0, 0] · slices_S73728x4_S73728x1_0_0) : (⟨S73728x4, .f32⟩ : BufTy).Contents (Elt F) → (⟨S73728x1, .f32⟩ : BufTy).Contents (Elt F)),
    reshape main_v79 main_v80 (rfl : (.f32 : EltTy) = .f32) shapeCasts_S73728x1_S73728,
    unary main_v78 main_v81 ((extractStridedSlice S73728x1 ![0, 1] · slices_S73728x4_S73728x1_0_1) : (⟨S73728x4, .f32⟩ : BufTy).Contents (Elt F) → (⟨S73728x1, .f32⟩ : BufTy).Contents (Elt F)),
    reshape main_v81 main_v82 (rfl : (.f32 : EltTy) = .f32) shapeCasts_S73728x1_S73728,
    unary main_v78 main_v83 ((extractStridedSlice S73728x1 ![0, 2] · slices_S73728x4_S73728x1_0_2) : (⟨S73728x4, .f32⟩ : BufTy).Contents (Elt F) → (⟨S73728x1, .f32⟩ : BufTy).Contents (Elt F)),
    reshape main_v83 main_v84 (rfl : (.f32 : EltTy) = .f32) shapeCasts_S73728x1_S73728,
    unary main_v78 main_v85 ((extractStridedSlice S73728x1 ![0, 3] · slices_S73728x4_S73728x1_0_3) : (⟨S73728x4, .f32⟩ : BufTy).Contents (Elt F) → (⟨S73728x1, .f32⟩ : BufTy).Contents (Elt F)),
    reshape main_v85 main_v86 (rfl : (.f32 : EltTy) = .f32) shapeCasts_S73728x1_S73728,
    nullary main_cst_0 (constant S_ .f32 0x40000000#32),
    unary main_cst_0 main_v87 (broadcastInDim S73728 ![] bcast_S_S73728 : (⟨S_, .f32⟩ : BufTy).Contents (Elt F) → (⟨S73728, .f32⟩ : BufTy).Contents (Elt F)),
    binary main_v84 main_v87 main_v88 (Host.divf : (⟨S73728, .f32⟩ : BufTy).Contents (Elt F) → (⟨S73728, .f32⟩ : BufTy).Contents (Elt F) → (⟨S73728, .f32⟩ : BufTy).Contents (Elt F)),
    binary main_v80 main_v88 main_v89 (addf : (⟨S73728, .f32⟩ : BufTy).Contents (Elt F) → (⟨S73728, .f32⟩ : BufTy).Contents (Elt F) → (⟨S73728, .f32⟩ : BufTy).Contents (Elt F)),
    nullary main_cst_1 (constant S_ .f32 0x40000000#32),
    unary main_cst_1 main_v90 (broadcastInDim S73728 ![] bcast_S_S73728 : (⟨S_, .f32⟩ : BufTy).Contents (Elt F) → (⟨S73728, .f32⟩ : BufTy).Contents (Elt F)),
    binary main_v86 main_v90 main_v91 (Host.divf : (⟨S73728, .f32⟩ : BufTy).Contents (Elt F) → (⟨S73728, .f32⟩ : BufTy).Contents (Elt F) → (⟨S73728, .f32⟩ : BufTy).Contents (Elt F)),
    binary main_v82 main_v91 main_v92 (addf : (⟨S73728, .f32⟩ : BufTy).Contents (Elt F) → (⟨S73728, .f32⟩ : BufTy).Contents (Elt F) → (⟨S73728, .f32⟩ : BufTy).Contents (Elt F)) ]

/-- The third stretch stays within the declared buffers. -/
theorem opsC_sub : (opsC : List (HloOp τ sig (Elt F))).Forall fun op => op.bufs ⊆ tcRefs τ sig :=
  ⟨unary_bufs_sub .., reshape_bufs_sub .., unary_bufs_sub .., reshape_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub ..⟩

/-- The third stretch takes no fresh buffer. -/
theorem opsC_fresh : ∀ op ∈ (opsC : List (HloOp τ sig (Elt F))), op.fresh = ∅ := by
  intro _ h; (repeat (cases h with | head => rfl | tail _ h => ?_)); exact nomatch h

/-- What the stretch writes. -/
abbrev opsC_W : List (Ref sig .tc) := [main_v74, main_v75, main_v76, main_v77, main_v78, main_v79, main_v80, main_v81, main_v82, main_v83, main_v84, main_v85, main_v86, main_cst_0, main_v87, main_v88, main_v89, main_cst_1, main_v90, main_v91, main_v92]

/-- What the third stretch writes. -/
theorem opsC_writes : (opsC : List (HloOp τ sig (Elt F))).Forall fun op => op.writes ⊆ (opsC_W.map (Proc.devRef (τ := τ) .tc)).toFinset :=
  forall_writes_sub_of_map rfl

/-- The decoding of the boxes and the four results. -/
abbrev opsD : List (HloOp τ sig (Elt F)) :=
  [ unary main_v73 main_v93 ((extractStridedSlice S73728x1 ![0, 0] · slices_S73728x4_S73728x1_0_0) : (⟨S73728x4, .f32⟩ : BufTy).Contents (Elt F) → (⟨S73728x1, .f32⟩ : BufTy).Contents (Elt F)),
    reshape main_v93 main_v94 (rfl : (.f32 : EltTy) = .f32) shapeCasts_S73728x1_S73728,
    unary main_v73 main_v95 ((extractStridedSlice S73728x1 ![0, 1] · slices_S73728x4_S73728x1_0_1) : (⟨S73728x4, .f32⟩ : BufTy).Contents (Elt F) → (⟨S73728x1, .f32⟩ : BufTy).Contents (Elt F)),
    reshape main_v95 main_v96 (rfl : (.f32 : EltTy) = .f32) shapeCasts_S73728x1_S73728,
    unary main_v73 main_v97 ((extractStridedSlice S73728x1 ![0, 2] · slices_S73728x4_S73728x1_0_2) : (⟨S73728x4, .f32⟩ : BufTy).Contents (Elt F) → (⟨S73728x1, .f32⟩ : BufTy).Contents (Elt F)),
    reshape main_v97 main_v98 (rfl : (.f32 : EltTy) = .f32) shapeCasts_S73728x1_S73728,
    unary main_v73 main_v99 ((extractStridedSlice S73728x1 ![0, 3] · slices_S73728x4_S73728x1_0_3) : (⟨S73728x4, .f32⟩ : BufTy).Contents (Elt F) → (⟨S73728x1, .f32⟩ : BufTy).Contents (Elt F)),
    reshape main_v99 main_v100 (rfl : (.f32 : EltTy) = .f32) shapeCasts_S73728x1_S73728,
    binary main_v94 main_v84 main_v101 (mulf : (⟨S73728, .f32⟩ : BufTy).Contents (Elt F) → (⟨S73728, .f32⟩ : BufTy).Contents (Elt F) → (⟨S73728, .f32⟩ : BufTy).Contents (Elt F)),
    binary main_v101 main_v89 main_v102 (addf : (⟨S73728, .f32⟩ : BufTy).Contents (Elt F) → (⟨S73728, .f32⟩ : BufTy).Contents (Elt F) → (⟨S73728, .f32⟩ : BufTy).Contents (Elt F)),
    binary main_v96 main_v86 main_v103 (mulf : (⟨S73728, .f32⟩ : BufTy).Contents (Elt F) → (⟨S73728, .f32⟩ : BufTy).Contents (Elt F) → (⟨S73728, .f32⟩ : BufTy).Contents (Elt F)),
    binary main_v103 main_v92 main_v104 (addf : (⟨S73728, .f32⟩ : BufTy).Contents (Elt F) → (⟨S73728, .f32⟩ : BufTy).Contents (Elt F) → (⟨S73728, .f32⟩ : BufTy).Contents (Elt F)),
    unary main_v98 main_v105 (Host.exp : (⟨S73728, .f32⟩ : BufTy).Contents (Elt F) → (⟨S73728, .f32⟩ : BufTy).Contents (Elt F)),
    binary main_v84 main_v105 main_v106 (mulf : (⟨S73728, .f32⟩ : BufTy).Contents (Elt F) → (⟨S73728, .f32⟩ : BufTy).Contents (Elt F) → (⟨S73728, .f32⟩ : BufTy).Contents (Elt F)),
    unary main_v100 main_v107 (Host.exp : (⟨S73728, .f32⟩ : BufTy).Contents (Elt F) → (⟨S73728, .f32⟩ : BufTy).Contents (Elt F)),
    binary main_v86 main_v107 main_v108 (mulf : (⟨S73728, .f32⟩ : BufTy).Contents (Elt F) → (⟨S73728, .f32⟩ : BufTy).Contents (Elt F) → (⟨S73728, .f32⟩ : BufTy).Contents (Elt F)),
    nullary main_cst_2 (constant S_ .f32 0x40000000#32),
    unary main_cst_2 main_v109 (broadcastInDim S73728 ![] bcast_S_S73728 : (⟨S_, .f32⟩ : BufTy).Contents (Elt F) → (⟨S73728, .f32⟩ : BufTy).Contents (Elt F)),
    binary main_v106 main_v109 main_v110 (Host.divf : (⟨S73728, .f32⟩ : BufTy).Contents (Elt F) → (⟨S73728, .f32⟩ : BufTy).Contents (Elt F) → (⟨S73728, .f32⟩ : BufTy).Contents (Elt F)),
    binary main_v102 main_v110 main_v111 (subf : (⟨S73728, .f32⟩ : BufTy).Contents (Elt F) → (⟨S73728, .f32⟩ : BufTy).Contents (Elt F) → (⟨S73728, .f32⟩ : BufTy).Contents (Elt F)),
    nullary main_cst_3 (constant S_ .f32 0x40000000#32),
    unary main_cst_3 main_v112 (broadcastInDim S73728 ![] bcast_S_S73728 : (⟨S_, .f32⟩ : BufTy).Contents (Elt F) → (⟨S73728, .f32⟩ : BufTy).Contents (Elt F)),
    binary main_v108 main_v112 main_v113 (Host.divf : (⟨S73728, .f32⟩ : BufTy).Contents (Elt F) → (⟨S73728, .f32⟩ : BufTy).Contents (Elt F) → (⟨S73728, .f32⟩ : BufTy).Contents (Elt F)),
    binary main_v104 main_v113 main_v114 (subf : (⟨S73728, .f32⟩ : BufTy).Contents (Elt F) → (⟨S73728, .f32⟩ : BufTy).Contents (Elt F) → (⟨S73728, .f32⟩ : BufTy).Contents (Elt F)),
    unary main_v111 main_v115 (broadcastInDim S73728x1 ![0] bcast_S73728_S73728x1_0 : (⟨S73728, .f32⟩ : BufTy).Contents (Elt F) → (⟨S73728x1, .f32⟩ : BufTy).Contents (Elt F)),
    unary main_v114 main_v116 (broadcastInDim S73728x1 ![0] bcast_S73728_S73728x1_0 : (⟨S73728, .f32⟩ : BufTy).Contents (Elt F) → (⟨S73728x1, .f32⟩ : BufTy).Contents (Elt F)),
    unary main_v106 main_v117 (broadcastInDim S73728x1 ![0] bcast_S73728_S73728x1_0 : (⟨S73728, .f32⟩ : BufTy).Contents (Elt F) → (⟨S73728x1, .f32⟩ : BufTy).Contents (Elt F)),
    unary main_v108 main_v118 (broadcastInDim S73728x1 ![0] bcast_S73728_S73728x1_0 : (⟨S73728, .f32⟩ : BufTy).Contents (Elt F) → (⟨S73728x1, .f32⟩ : BufTy).Contents (Elt F)),
    nary ![main_v115, main_v116, main_v117, main_v118] main_v119 (fun u => stack4 (F := F) (u 0) (u 1) (u 2) (u 3)),
    reshape main_v119 main_v120 (rfl : (.f32 : EltTy) = .f32) shapeCasts_S73728x4_S8x9216x4,
    reshape main_v73 main_v121 (rfl : (.f32 : EltTy) = .f32) shapeCasts_S73728x4_S8x9216x4,
    reshape main_v72 main_v122 (rfl : (.f32 : EltTy) = .f32) shapeCasts_S8x32x32x9x2_S8x9216x2,
    reshape main_v78 main_v123 (rfl : (.f32 : EltTy) = .f32) shapeCasts_S73728x4_S8x9216x4 ]

/-- The fourth stretch stays within the declared buffers. -/
theorem opsD_sub : (opsD : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub .., nary_bufs_sub .., reshape_bufs_sub .., reshape_bufs_sub .., reshape_bufs_sub .., reshape_bufs_sub ..⟩

/-- The fourth stretch takes no fresh buffer. -/
theorem opsD_fresh : ∀ op ∈ (opsD : List (HloOp τ sig (Elt F))), op.fresh = ∅ := by
  intro _ h; (repeat (cases h with | head => rfl | tail _ h => ?_)); exact nomatch h

/-- What the stretch writes. -/
abbrev opsD_W : List (Ref sig .tc) := [main_v93, main_v94, main_v95, main_v96, main_v97, main_v98, main_v99, main_v100, main_v101, main_v102, main_v103, main_v104, main_v105, main_v106, main_v107, main_v108, main_cst_2, main_v109, main_v110, main_v111, main_cst_3, main_v112, main_v113, main_v114, main_v115, main_v116, main_v117, main_v118, main_v119, main_v120, main_v121, main_v122, main_v123]

/-- What the fourth stretch writes. -/
theorem opsD_writes : (opsD : List (HloOp τ sig (Elt F))).Forall fun op => op.writes ⊆ (opsD_W.map (Proc.devRef (τ := τ) .tc)).toFinset :=
  forall_writes_sub_of_map rfl

/-- The whole line. -/
abbrev ops : List (HloOp τ sig (Elt F)) := opsA ++ (opsB ++ (opsC ++ opsD))

/-- The program is the whole list, run in order. -/
theorem main_eq (c : Dev nD) : main (F := F) c = seq ops := rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

/-- The whole list stays within the declared buffers. -/
theorem ops_sub : (ops : List (HloOp τ sig (Elt F))).Forall fun op => op.bufs ⊆ tcRefs τ sig := by
  rw [List.forall_iff_forall_mem]
  intro op h
  rcases List.mem_append.1 h with h | h
  · exact List.forall_iff_forall_mem.1 opsA_sub op h
  rcases List.mem_append.1 h with h | h
  · exact List.forall_iff_forall_mem.1 opsB_sub op h
  rcases List.mem_append.1 h with h | h
  · exact List.forall_iff_forall_mem.1 opsC_sub op h
  · exact List.forall_iff_forall_mem.1 opsD_sub op h

/-- No operation of the whole list takes a fresh buffer. -/
theorem ops_fresh : ∀ op ∈ (ops : List (HloOp τ sig (Elt F))), op.fresh = ∅ := by
  intro op h
  rcases List.mem_append.1 h with h | h
  · exact opsA_fresh op h
  rcases List.mem_append.1 h with h | h
  · exact opsB_fresh op h
  rcases List.mem_append.1 h with h | h
  · exact opsC_fresh op h
  · exact opsD_fresh op h

/-- One line after another. -/
theorem after_app (l₁ l₂ : List (HloOp τ sig (Elt F))) (U : Valuation τ sig (Elt F)) : after (l₁ ++ l₂) U = after l₂ (after l₁ U) := by
  induction l₁ generalizing U with
  | nil => rfl
  | cons op l ih => exact ih _

/-- The contents after each stretch. -/
abbrev U1 (U : Valuation τ sig (Elt F)) : Valuation τ sig (Elt F) := after opsA U
abbrev U2 (U : Valuation τ sig (Elt F)) : Valuation τ sig (Elt F) := after opsB (U1 U)
abbrev U3 (U : Valuation τ sig (Elt F)) : Valuation τ sig (Elt F) := after opsC (U2 U)
abbrev U4 (U : Valuation τ sig (Elt F)) : Valuation τ sig (Elt F) := after opsD (U3 U)

/-- The whole list folds as its four stretches in order. -/
theorem after_ops (U : Valuation τ sig (Elt F)) : after ops U = U4 U := by
  unfold ops; rw [after_app, after_app, after_app]

/-- An argument is written by no stretch. -/
theorem U4_arg (U : Valuation τ sig (Elt F)) (r : Ref sig .tc) (hA : r ∉ opsA_W) (hB : r ∉ opsB_W) (hC : r ∉ opsC_W) (hD : r ∉ opsD_W) :
    U4 U (Proc.devRef .tc r) = U (Proc.devRef .tc r) :=
  (after_of_writes_sub opsD _ opsD_writes hD).trans <| (after_of_writes_sub opsC _ opsC_writes hC).trans <|
    (after_of_writes_sub opsB _ opsB_writes hB).trans (after_of_writes_sub opsA _ opsA_writes hA)

/-- The run: every buffer at the fold of the four stretches. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = U4 (launchContents m c) (Proc.devRef .tc b) :=
  (θ_run defs _ _).mono (fun _ h c b => (h c b).trans (congrFun (after_ops _) _))
    (run_seq scopedRefs_eq scopedSems_eq defs main (fun _ => ops) main_eq (fun _ => ops_sub) m ρ (fun _ => ops_fresh))

end Cert.ReferenceIdeal.Own

end
-- ==== Proof.Own.RefFrame.lean ====
/- The reference program's frame: its arguments end as launched, and it declares no semaphore. -/
module

public import proofs.«01_k».proof.Defs
public import proofs.«01_k».proof.Proof.Own.RefRun
public import Idealize.ShloMosaic.Lib.Quiescent

@[expose] public section

set_option maxRecDepth 16384

noncomputable section

namespace Cert.ReferenceIdeal.Own

open Cert.ReferenceIdeal Cert.ReferenceIdeal.Gen Idealize.ShloMosaic Idealize.ShloMosaic.TcCoe Idealize.SL.Sem Idealize.ShloMosaic.StableHlo

/-- The run with the arguments as launched and every counter at zero. -/
theorem run_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c =>
    ⟨(h c main_arg0).trans (U4_arg _ _ (by decide) (by decide) (by decide) (by decide)),
     (h c main_arg1).trans (U4_arg _ _ (by decide) (by decide) (by decide) (by decide)),
     (h c main_arg2).trans (U4_arg _ _ (by decide) (by decide) (by decide) (by decide)),
     (h c main_arg3).trans (U4_arg _ _ (by decide) (by decide) (by decide) (by decide)),
     (h c main_arg4).trans (U4_arg _ _ (by decide) (by decide) (by decide) (by decide)),
     (h c main_arg5).trans (U4_arg _ _ (by decide) (by decide) (by decide) (by decide)),
     (h c main_arg6).trans (U4_arg _ _ (by decide) (by decide) (by decide) (by decide))⟩,
    sem_eq_zero_of_no_sems (by decide) _⟩) (run_all m ρ)

/-- The reference's frame. -/
theorem frame : Cert.quiescent_ReferenceIdeal := fun m ρ _ => run_frame m ρ

/-- The same under the precondition. -/
theorem frame_pre [Cert.Pre_finite_factors.Facts] : Cert.quiescent_ReferenceIdeal_pre_finite_factors := fun m ρ _ => run_frame m ρ

end Cert.ReferenceIdeal.Own

end
-- ==== Proof.Own.KernelRun.lean ====
/- The kernel program's run, at the value: every buffer it leaves holds the contents computed by folding its host
   operations and its two regions over the launch memory (`Gen.W4`). -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer of the launch ends at the folded contents: the same launch as the frame's, its last state kept whole. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The four results at the folded contents, the arguments as launched. -/
theorem run_results : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_v14) = W4 m ρ c (Proc.devRef .tc main_v14)
      ∧ r.2.mem ((c.tc : Thread nD τ).loc main_v16) = W4 m ρ c (Proc.devRef .tc main_v16)
      ∧ r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v12 (by decide)), h c _ (mem_uc main_v14 (by decide)), h c _ (mem_uc main_v16 (by decide)),
     h c _ (mem_uc main_v20 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Own

end
-- ==== Proof.Own.Region0.lean ====
/- Region 0 of the kernel: the folded weights and the folded bias, from the arrays it reads. -/
module

public import proofs.«01_k».proof.Proof.Gen.KernelIdeal.Skeleton
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Own

open Cert.KernelIdeal Cert.KernelIdeal.Gen Idealize.ShloMosaic Idealize.ShloMosaic.TcCoe

variable (x0 : Vec Ideal S2304x1024 .f32) (x1 : Vec Ideal S54x256 .f32) (x2 : Vec Ideal S1x256 .f32) (x3 : Vec Ideal S54x1 .f32)

/-- Tap `o`'s folded weight of row `r` and channel `k`. -/
def wgt (o : Fin 9) (r : Fin 54) (k : Fin 1024) : EReal := ∑ h : Fin 256, x1 (ix2 r h) * x0 (ix2 ⟨256 * o.val + h.val, by omega⟩ k)

section Payload

variable (w : Vec Ideal S54x256 .f32) (a : Fin 9 → Vec Ideal S256x1024 .f32)

/-- A row's product depends on the row's number alone. -/
theorem row_sum (v : Vec Ideal S256x1024 .f32) (r : Fin 54) (k : Fin 1024) (i : Nat) (hi : i < 54) (e : i = r.val) :
    ∑ h : Fin 256, w (ix2 ⟨i, hi⟩ h) * v (ix2 h k) = ∑ h : Fin 256, w (ix2 r h) * v (ix2 h k) := by
  subst e; rfl

/-- Nine products stacked: the rows of slab `o` are those of the product with the slab's own weights. -/
theorem pay3_at (o : Fin 9) (r : Fin 54) (k : Fin 1024) :
    k0_pay3 w (a 0) (a 1) (a 2) (a 3) (a 4) (a 5) (a 6) (a 7) (a 8) (ix2 ⟨54 * o.val + r.val, by omega⟩ k)
      = ∑ h : Fin 256, w (ix2 r h) * a o (ix2 h k) := by
  pointwise [k0_pay3, k0_pay2]
  obtain ⟨o, ho⟩ := o
  dsimp only
  interval_cases o
  all_goals repeat first | rw [dif_pos (by omega)] | rw [dif_neg (by omega)]
  all_goals exact row_sum w _ r k _ _ (by omega)

end Payload

/-- The weights that the body writes are the folded ones. -/
theorem out4_at (o : Fin 9) (r : Fin 54) (k : Fin 1024) :
    out0_4 x0 x1 x2 x3 (ix2 ⟨54 * o.val + r.val, by omega⟩ k) = wgt x0 x1 o r k := by
  frame_out
  unfold wgt
  refine (pay3_at _ ![_, _, _, _, _, _, _, _, _] o r k).trans (Finset.sum_congr rfl fun h _ => ?_)
  match o with
  | 0 | 1 | 2 | 3 | 4 | 5 | 6 | 7 | 8 => pointwise

/-- The folded bias of row `r`. -/
def bias (r : Fin 54) : EReal := (∑ h : Fin 256, x1 (ix2 r h) * x2 (ix2 0 h)) + x3 (ix2 r 0)

/-- The bias that the body writes is the folded one, in every column. -/
theorem out5_at (r : Fin 54) (q : Fin 128) :
    out0_5 x0 x1 x2 x3 (ix2 r q) = bias x1 x2 x3 r := by
  frame_out
  unfold bias
  pointwise [k0_pay1, k0_pay2]

variable (V : (c : Dev nD) → (b : Ref sig .tc) → Buf (Elt Ideal) ((c : Thread nD τ).loc b)) (c : Dev nD)

/-- Every window of the one step is at the origin. -/
theorem idx0 : ∀ t : Fin cfg0.N, win0_0.index t = ![0, 0] ∧ win0_1.index t = ![0, 0] ∧ win0_2.index t = ![0, 0] ∧ win0_3.index t = ![0, 0] :=
  (by decide +kernel : ∀ t : Fin grid0.N, _)

/-- The block of the only step is the whole array. -/
theorem blk0_0 : iblk0 V c 0 t0_0 = V c main_v2 := by blk_ext! [iblk0, idx0 t0_0]
/-- The same of the second input. -/
theorem blk0_1 : iblk0 V c 1 t0_0 = V c main_v5 := by blk_ext! [iblk0, idx0 t0_0]
/-- The same of the third. -/
theorem blk0_2 : iblk0 V c 2 t0_0 = V c main_v6 := by blk_ext! [iblk0, idx0 t0_0]
/-- The same of the fourth. -/
theorem blk0_3 : iblk0 V c 3 t0_0 = V c main_v8 := by blk_ext! [iblk0, idx0 t0_0]

/-- The first output array is what the body writes. -/
theorem arr4_eq : (dat0 V c).arrAt 4 cfg0.N = out0_4 (V c main_v2) (V c main_v5) (V c main_v6) (V c main_v8) := by
  refine (dat0 V c).arrAt_eq_of_after_last 4 t0_0 (by decide +kernel) _ fun j => ?_
  blk_simp
  rw [after0_4, blk0_0, blk0_1, blk0_2, blk0_3]

/-- The second output array is what the body writes. -/
theorem arr5_eq : (dat0 V c).arrAt 5 cfg0.N = out0_5 (V c main_v2) (V c main_v5) (V c main_v6) (V c main_v8) := by
  refine (dat0 V c).arrAt_eq_of_after_last 5 t0_0 (by decide +kernel) _ fun j => ?_
  blk_simp
  rw [after0_5, blk0_0, blk0_1, blk0_2, blk0_3]

/-- The first output array at an index. -/
theorem arr4 (o : Fin 9) (r : Fin 54) (k : Fin 1024) :
    ((dat0 V c).arrAt 4 cfg0.N : Vec Ideal S486x1024 .f32) (ix2 ⟨54 * o.val + r.val, by omega⟩ k) = wgt (V c main_v2) (V c main_v5) o r k :=
  (congrFun (arr4_eq V c) _).trans (out4_at _ _ _ _ o r k)

/-- The second output array at an index. -/
theorem arr5 (r : Fin 54) (q : Fin 128) :
    ((dat0 V c).arrAt 5 cfg0.N : Vec Ideal S54x128 .f32) (ix2 r q)
      = bias (V c main_v5) (V c main_v6) (V c main_v8) r :=
  (congrFun (arr5_eq V c) _).trans (out5_at _ _ _ _ r q)

end Cert.KernelIdeal.Own

end
-- ==== Proof.Own.Maths.lean ====
/- The arithmetic of the two programs over the extended reals, free of any program: folding the second convolution's
   weights into the first, and selecting an element by a row of a 0/1 matrix. -/
module

public import Mathlib.Data.EReal.Inv
public import Mathlib.Algebra.BigOperators.Fin
public import Mathlib.Algebra.BigOperators.Ring.Finset
public import Mathlib.Tactic.Ring

@[expose] public section

noncomputable section

namespace Cert.Maths

open Finset

/-- A sum of finitely many real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplying a sum by a REAL number distributes when one summand is real, whatever the other is. -/
theorem coe_add_mul_coe (c w : ℝ) (b : EReal) : ((c : EReal) + b) * (w : EReal) = (c : EReal) * (w : EReal) + b * (w : EReal) := by
  induction b using EReal.rec with
  | coe b => norm_cast; ring
  | bot =>
    rcases lt_trichotomy w 0 with h | h | h
    · rw [EReal.add_bot, EReal.bot_mul_coe_of_neg h, ← EReal.coe_mul, EReal.coe_add_top]
    · subst h; simp
    · rw [EReal.add_bot, EReal.bot_mul_coe_of_pos h, EReal.add_bot]
  | top =>
    rcases lt_trichotomy w 0 with h | h | h
    · rw [EReal.coe_add_top, EReal.top_mul_coe_of_neg h, EReal.add_bot]
    · subst h; simp
    · rw [EReal.coe_add_top, EReal.top_mul_coe_of_pos h, ← EReal.coe_mul, EReal.coe_add_top]

/-- The fold over the reals: applying the weights `w` after the taps is applying the folded weights to each tap. -/
theorem fold_real {H O C : Type*} [Fintype H] [Fintype O] [Fintype C] (X : O → C → ℝ) (W : H → O → C → ℝ) (w : H → ℝ) :
    ∑ h, (∑ o, ∑ c, X o c * W h o c) * w h = ∑ o, ∑ c, (∑ h, w h * W h o c) * X o c := by
  simp only [Finset.sum_mul]
  rw [Finset.sum_comm]
  refine Finset.sum_congr rfl fun o _ => ?_
  rw [Finset.sum_comm]
  refine Finset.sum_congr rfl fun c _ => Finset.sum_congr rfl fun h _ => ?_
  ring

/-- THE FOLD: real taps and weights, any biases. A biased tap sum contracted with `w` and biased again is the tap sum with
    folded weights plus the folded bias. -/
theorem fold {H O C : Type*} [Fintype H] [Fintype O] [Fintype C] (X : O → C → EReal) (W : H → O → C → EReal) (w : H → EReal)
    (b₁ : H → EReal) (b : EReal)
    (hX : ∀ o c, ∃ r : ℝ, X o c = r) (hW : ∀ h o c, ∃ r : ℝ, W h o c = r) (hw : ∀ h, ∃ r : ℝ, w h = r) :
    (∑ h, ((∑ o, ∑ c, X o c * W h o c) + b₁ h) * w h) + b
      = (∑ o, ∑ c, (∑ h, w h * W h o c) * X o c) + ((∑ h, w h * b₁ h) + b) := by
  choose X' hX using hX
  choose W' hW using hW
  choose w' hw using hw
  simp only [hX, hW, hw]
  have e1 : ∀ h, (∑ o, ∑ c, (X' o c : EReal) * (W' h o c : EReal)) = ((∑ o, ∑ c, X' o c * W' h o c : ℝ) : EReal) := fun h => by
    simp only [coe_sum, EReal.coe_mul]
  have e2 : ∀ o c, (∑ h, (w' h : EReal) * (W' h o c : EReal)) = ((∑ h, w' h * W' h o c : ℝ) : EReal) := fun o c => by
    simp only [coe_sum, EReal.coe_mul]
  have e3 : (∑ o, ∑ c, ((∑ h, w' h * W' h o c : ℝ) : EReal) * (X' o c : EReal))
      = ((∑ o, ∑ c, (∑ h, w' h * W' h o c) * X' o c : ℝ) : EReal) := by
    simp only [coe_sum, EReal.coe_mul]
  simp only [e1, e2, e3, coe_add_mul_coe]
  rw [Finset.sum_add_distrib, ← fold_real, coe_sum, add_assoc]
  simp only [EReal.coe_mul, mul_comm (w' _ : EReal) (b₁ _)]

/-- Nine summands added from the left, the first to the last. -/
theorem sum_nine {M : Type*} [AddCommMonoid M] (f : Fin 9 → M) :
    ∑ o, f o = f 0 + f 1 + f 2 + f 3 + f 4 + f 5 + f 6 + f 7 + f 8 := by
  simp only [Fin.sum_univ_succ, Fin.sum_univ_zero, add_zero, ← add_assoc]; rfl

/-- A masked sum of products is the sum of the products with the masked factor. -/
theorem masked_sum {C : Type*} [Fintype C] (p : Prop) [Decidable p] (a x : C → EReal) :
    (if p then ∑ c, a c * x c else 0) = ∑ c, a c * (if p then x c else 0) := by
  by_cases h : p
  · simp [h]
  · simp [h]

/-- A row of a 0/1 matrix with its one at `s` picks the element at `s`. -/
theorem pick {K : Type*} [Fintype K] [DecidableEq K] (s : K) (a e : K → EReal) (ha : ∀ k, a k = if k = s then 1 else 0) :
    ∑ k, a k * e k = e s := by
  rw [Finset.sum_eq_single s]
  · rw [ha, if_pos rfl, one_mul]
  · intro k _ hk; rw [ha, if_neg hk, zero_mul]
  · intro h; exact absurd (Finset.mem_univ s) h

/-- Decoding a corner: centre plus shift minus half the size. -/
theorem corner (t e xa wa h : EReal) : t * wa + (xa + wa * h) + -(wa * h) * e = t * wa + (xa + wa * h) - wa * e * h := by
  rw [sub_eq_add_neg, EReal.neg_mul, mul_right_comm]

end Cert.Maths

end
-- ==== Proof.Own.Taps.lean ====
/- The nine taps of a three by three window over a 32 by 32 image whose positions are numbered row by row. -/
module

public import Mathlib.Data.EReal.Inv

@[expose] public section

namespace Cert.Taps

/-- Tap `o` (row `o / 3`, column `o % 3` of the window) at position `p` lies on the image. -/
def inside (o : Fin 9) (p : Fin 1024) : Prop :=
  (1 ≤ p.val / 32 + o.val / 3 ∧ p.val / 32 + o.val / 3 < 33) ∧ (1 ≤ p.val % 32 + o.val % 3 ∧ p.val % 32 + o.val % 3 < 33)

instance (o : Fin 9) (p : Fin 1024) : Decidable (inside o p) := inferInstanceAs (Decidable (_ ∧ _))

/-- The position the tap reads, when it lies on the image. -/
def src (o : Fin 9) (p : Fin 1024) : Fin 1024 :=
  ⟨(p.val + 32 * (o.val / 3) + o.val % 3 + 991) % 1024, Nat.mod_lt _ (by omega)⟩

/-- Its row and column. -/
theorem src_div (o : Fin 9) (p : Fin 1024) (h : inside o p) : (src o p).val / 32 = p.val / 32 + o.val / 3 - 1 := by
  obtain ⟨⟨h1, h2⟩, h3, h4⟩ := h
  simp only [src]; omega

/-- The column of the position that a tap reads. -/
theorem src_mod (o : Fin 9) (p : Fin 1024) (h : inside o p) : (src o p).val % 32 = p.val % 32 + o.val % 3 - 1 := by
  obtain ⟨⟨h1, h2⟩, h3, h4⟩ := h
  simp only [src]; omega

end Cert.Taps
-- ==== Proof.Own.KernelWords.lean ====
/- The integer words of region 1's body: each position's row and column, and the nine masks. -/
module

public import proofs.«01_k».proof.Proof.Gen.KernelIdeal.Skeleton
public import proofs.«01_k».proof.Proof.Gen.KernelIdeal.Frame
public import proofs.«01_k».proof.Proof.Own.Maths
public import proofs.«01_k».proof.Proof.Own.Taps
public import Idealize.ShloMosaic.Lib.Pointwise

@[expose] public section

set_option maxRecDepth 16384

noncomputable section

namespace Cert.KernelIdeal.Own

open Cert.KernelIdeal Cert.KernelIdeal.Gen Idealize.ShloMosaic Cert.Taps

/-- The row of position `p`, as the kernel computes it. -/
theorem hword (p : Fin 1024) : (k1_pay5 : IVec S1x1024 32) (ix2 0 p) = BitVec.ofNat 32 (p.val / 32) := by
  pointwise [k1_pay5]
  revert p
  decide +kernel

/-- The column of position `p`, as the kernel computes it. -/
theorem wword (p : Fin 1024) : k1_pay10 (Scalar.select (Scalar.cmpi .eq 32#32 0#32) 1#32 32#32) k1_pay6 k1_pay7 k1_pay8 k1_pay9 (ix2 0 p)
    = BitVec.ofNat 32 (p.val % 32) := by
  pointwise [k1_pay10, k1_pay9, k1_pay8, k1_pay7, k1_pay6]
  revert p
  decide +kernel

/-- The mask of the tap displaced by `dy`, `dx`, at row `h` and column `w`. -/
abbrev mask (dy dx h w : BitVec 32) : BitVec 1 :=
  IntOp.andi
    (IntOp.andi
      (IntOp.andi (IntOp.cmpi CmpIPredicate.sge (IntOp.addi h dy) 0#32) (IntOp.cmpi CmpIPredicate.slt (IntOp.addi h dy) 32#32))
      (IntOp.cmpi CmpIPredicate.sge (IntOp.addi w dx) 0#32))
    (IntOp.cmpi CmpIPredicate.slt (IntOp.addi w dx) 32#32)

/-- The word that a window's offset 0, 1 or 2 adds: −1, 0 or 1. -/
def step : Nat → BitVec 32
  | 0 => 4294967295#32
  | 1 => 0#32
  | _ => 1#32

/-- The mask of tap `o` at position `p` says whether the tap is inside the image. -/
theorem mask_at : ∀ (o : Fin 9) (p : Fin 1024), mask (step (o.val / 3)) (step (o.val % 3)) (BitVec.ofNat 32 (p.val / 32)) (BitVec.ofNat 32 (p.val % 32))
    = if inside o p then 1#1 else 0#1 := by
  decide +kernel

end Cert.KernelIdeal.Own

end
-- ==== Proof.Own.KernelPay.lean ====
/- What region 1's body sums: the nine masked, shifted rows of the product and the bias. -/
module

public import proofs.«01_k».proof.Proof.Gen.KernelIdeal.Skeleton
public import proofs.«01_k».proof.Proof.Gen.KernelIdeal.Frame
public import proofs.«01_k».proof.Proof.Own.Maths
public import proofs.«01_k».proof.Proof.Own.Taps
public import proofs.«01_k».proof.Proof.Own.KernelWords
public import Idealize.ShloMosaic.Lib.Pointwise

@[expose] public section

set_option maxRecDepth 16384

noncomputable section

namespace Cert.KernelIdeal.Own

open Cert.KernelIdeal Cert.KernelIdeal.Gen Idealize.ShloMosaic Cert.Taps

/-- One term of the sum. -/
def term (y : FVec Ideal S486x1024 .f32) (r : Fin 54) (p : Fin 1024) (o : Fin 9) : EReal :=
  if inside o p then y (ix2 ⟨54 * o.val + r.val, by omega⟩ (src o p)) else 0

/-- A masked element of the product is the term of its tap. -/
theorem term_of (y : FVec Ideal S486x1024 .f32) (r : Fin 54) (p : Fin 1024) (o : Fin 9) (m : BitVec 1) (hm : m = if inside o p then 1#1 else 0#1)
    (k q : Nat) (hk : k < 486) (hq : q < 1024) (ek : k = 54 * o.val + r.val) (eq : q = (src o p).val) :
    Scalar.select m (y (ix2 ⟨k, hk⟩ ⟨q, hq⟩)) 0 = term y r p o := by
  subst hm ek
  unfold term
  by_cases h : inside o p
  · simp only [h, if_true]
    exact congrArg (fun j => y (ix2 _ j)) (Fin.ext eq)
  · simp only [h, if_false]
    rfl

/-- Equal summands, equal sums. -/
theorem add_two {a b c d : EReal} (h : a = c) (h' : b = d) : a + b = c + d := by rw [h, h']

variable (y : FVec Ideal S486x1024 .f32) (b : Vec Ideal S54x1 .f32) (H W : IVec S1x1024 32) (v31 : BitVec 32) (v33 : IVec S1x1024 32)
  (v35 v37 v39 : IVec S1x1024 1)

/-- The rows of tap 1, rotated. -/
theorem pay12_at (r : Fin 54) (p : Fin 1024) : k1_pay12 y (ix2 r p)
    = y (ix2 ⟨54 + r.val, by omega⟩ ⟨(p.val + 1024 - 32) % 1024, by omega⟩) := by
  pointwise [k1_pay12]

/-- The rows of tap 3, rotated. -/
theorem pay16_at (r : Fin 54) (p : Fin 1024) : k1_pay16 y (ix2 r p)
    = y (ix2 ⟨162 + r.val, by omega⟩ ⟨(p.val + 1024 - 1) % 1024, by omega⟩) := by
  pointwise [k1_pay16]

/-- The rows of tap 4, rotated. -/
theorem pay19_at (r : Fin 54) (p : Fin 1024) : k1_pay19 y (ix2 r p)
    = y (ix2 ⟨216 + r.val, by omega⟩ p) := by
  pointwise [k1_pay19]

/-- The rows of tap 6, rotated. -/
theorem pay22_at (r : Fin 54) (p : Fin 1024) : k1_pay22 y (ix2 r p)
    = y (ix2 ⟨324 + r.val, by omega⟩ ⟨(p.val + 1024 - 993) % 1024, by omega⟩) := by
  pointwise [k1_pay22]

/-- The rows of tap 8, rotated. -/
theorem pay27_at (r : Fin 54) (p : Fin 1024) : k1_pay27 y (ix2 r p)
    = y (ix2 ⟨432 + r.val, by omega⟩ ⟨(p.val + 1024 - 991) % 1024, by omega⟩) := by
  pointwise [k1_pay27]

/-- A part of a mask, as words of the row and the column. -/
theorem pay13_at (p : Fin 1024) : k1_pay13 H (ix2 0 p)
    = (IntOp.andi (IntOp.cmpi CmpIPredicate.sge (IntOp.addi (H (ix2 0 p)) 4294967295#32) 0#32) (IntOp.cmpi CmpIPredicate.slt (IntOp.addi (H (ix2 0 p)) 4294967295#32) 32#32)) := by
  pointwise [k1_pay13]

/-- A part of a mask, as words of the row and the column. -/
theorem pay23_at (p : Fin 1024) : k1_pay23 H (ix2 0 p)
    = (IntOp.andi (IntOp.cmpi CmpIPredicate.sge (IntOp.addi (H (ix2 0 p)) 1#32) 0#32) (IntOp.cmpi CmpIPredicate.slt (IntOp.addi (H (ix2 0 p)) 1#32) 32#32)) := by
  pointwise [k1_pay23]

/-- A part of a mask, as words of the row and the column. -/
theorem pay28_at (p : Fin 1024) : k1_pay28 H (ix2 0 p)
    = IntOp.cmpi CmpIPredicate.sge (IntOp.addi (H (ix2 0 p)) 1#32) 0#32 := by
  pointwise [k1_pay28]

/-- A part of a mask, as words of the row and the column. -/
theorem pay17_at (p : Fin 1024) : k1_pay17 H (ix2 0 p)
    = IntOp.addi (H (ix2 0 p)) 0#32 := by
  pointwise [k1_pay17]

/-- A part of a mask, as words of the row and the column. -/
theorem pay24_at (p : Fin 1024) : k1_pay24 W (ix2 0 p)
    = IntOp.addi (W (ix2 0 p)) 4294967295#32 := by
  pointwise [k1_pay24]

/-- A part of a mask, as words of the row and the column. -/
theorem pay25_at (p : Fin 1024) : k1_pay25 (ix2 0 p)
    = 0#32 := by
  pointwise [k1_pay25]

/-- The mask of the middle tap. -/
theorem pay20_at (r : Fin 54) (p : Fin 1024) : k1_pay20 H W (ix2 r p)
    = (mask 0#32 0#32 (H (ix2 0 p)) (W (ix2 0 p))) := by
  pointwise [k1_pay20]

/-- A part of a mask, as words of the row and the column. -/
theorem pay14_at (hW : k1_pay10 v31 v33 v35 v37 v39 = W) (p : Fin 1024) : k1_pay14 v31 v33 v35 v37 v39 (ix2 0 p)
    = IntOp.addi (W (ix2 0 p)) 0#32 := by
  simp only [k1_pay14, hW]
  pointwise

/-- A partial sum: what was summed so far and the next masked taps. -/
theorem pay11_at (hW : k1_pay10 v31 v33 v35 v37 v39 = W) (r : Fin 54) (p : Fin 1024) : k1_pay11 y H v31 v33 v35 v37 v39 (ix2 r p)
    = Scalar.select (mask 4294967295#32 4294967295#32 (H (ix2 0 p)) (W (ix2 0 p))) (y (ix2 ⟨r.val, by omega⟩ ⟨(p.val + 1024 - 33) % 1024, by omega⟩)) 0 := by
  simp only [k1_pay11, hW]
  pointwise

/-- A partial sum: what was summed so far and the next masked taps. -/
theorem pay15_at (v70 v72 : FVec Ideal S54x1024 .f32) (v81 : IVec S1x1024 1) (v83 : IVec S1x1024 32) (r : Fin 54) (p : Fin 1024) :
    k1_pay15 y H W v70 v72 v81 v83 (ix2 r p)
    = v70 (ix2 r p) + Scalar.select (IntOp.andi (IntOp.andi (v81 (ix2 0 p)) (IntOp.cmpi CmpIPredicate.sge (v83 (ix2 0 p)) 0#32)) (IntOp.cmpi CmpIPredicate.slt (IntOp.addi (W (ix2 0 p)) 0#32) 32#32)) (v72 (ix2 r p)) 0
      + Scalar.select (mask 4294967295#32 1#32 (H (ix2 0 p)) (W (ix2 0 p))) (y (ix2 ⟨108 + r.val, by omega⟩ ⟨(p.val + 1024 - 31) % 1024, by omega⟩)) 0 := by
  pointwise [k1_pay15]

/-- A partial sum: what was summed so far and the next masked taps. -/
theorem pay18_at (v122 v124 : FVec Ideal S54x1024 .f32) (v126 : IVec S1x1024 32) (r : Fin 54) (p : Fin 1024) :
    k1_pay18 H W v122 v124 v126 0#32 (ix2 r p)
    = v122 (ix2 r p) + Scalar.select (IntOp.andi (IntOp.andi (IntOp.andi (IntOp.cmpi CmpIPredicate.sge (v126 (ix2 0 p)) 0#32) (IntOp.cmpi CmpIPredicate.slt (IntOp.addi (H (ix2 0 p)) 0#32) 32#32)) (IntOp.cmpi CmpIPredicate.sge (IntOp.addi (W (ix2 0 p)) 4294967295#32) 0#32)) (IntOp.cmpi CmpIPredicate.slt (IntOp.addi (W (ix2 0 p)) 4294967295#32) 32#32)) (v124 (ix2 r p)) 0 := by
  pointwise [k1_pay18]

/-- A partial sum: what was summed so far and the next masked taps. -/
theorem pay21_at (v148 v149 : FVec Ideal S54x1024 .f32) (v170 : IVec S54x1024 1) (r : Fin 54) (p : Fin 1024) :
    k1_pay21 y H W v148 v149 (Scalar.ofBits .f32 0x00000000#32) v170 (ix2 r p)
    = v148 (ix2 r p) + Scalar.select (v170 (ix2 r p)) (v149 (ix2 r p)) 0
      + Scalar.select (mask 0#32 1#32 (H (ix2 0 p)) (W (ix2 0 p))) (y (ix2 ⟨270 + r.val, by omega⟩ ⟨(p.val + 1024 - 1023) % 1024, by omega⟩)) 0 := by
  pointwise [k1_pay21]

/-- A partial sum: what was summed so far and the next masked taps. -/
theorem pay26_at (v199 v201 : FVec Ideal S54x1024 .f32) (v210 : IVec S1x1024 1) (v212 v213 : IVec S1x1024 32) (r : Fin 54) (p : Fin 1024) :
    k1_pay26 y H W v199 v201 v210 v212 v213 (ix2 r p)
    = v199 (ix2 r p) + Scalar.select (IntOp.andi (IntOp.andi (v210 (ix2 0 p)) (IntOp.cmpi CmpIPredicate.sge (v212 (ix2 0 p)) (v213 (ix2 0 p)))) (IntOp.cmpi CmpIPredicate.slt (IntOp.addi (W (ix2 0 p)) 4294967295#32) 32#32)) (v201 (ix2 r p)) 0
      + Scalar.select (mask 1#32 0#32 (H (ix2 0 p)) (W (ix2 0 p))) (y (ix2 ⟨378 + r.val, by omega⟩ ⟨(p.val + 1024 - 992) % 1024, by omega⟩)) 0 := by
  pointwise [k1_pay26]

/-- A partial sum: what was summed so far and the next masked taps. -/
theorem pay29_at (v251 v253 : FVec Ideal S54x1024 .f32) (v257 : IVec S1x1024 1) (r : Fin 54) (p : Fin 1024) :
    k1_pay29 H W v251 v253 v257 b (ix2 r p)
    = v251 (ix2 r p) + Scalar.select (IntOp.andi (IntOp.andi (IntOp.andi (v257 (ix2 0 p)) (IntOp.cmpi CmpIPredicate.slt (IntOp.addi (H (ix2 0 p)) 1#32) 32#32)) (IntOp.cmpi CmpIPredicate.sge (IntOp.addi (W (ix2 0 p)) 1#32) 0#32)) (IntOp.cmpi CmpIPredicate.slt (IntOp.addi (W (ix2 0 p)) 1#32) 32#32)) (v253 (ix2 r p)) 0
      + b (ix2 r 0) := by
  pointwise [k1_pay29]

/-- The nine masked, shifted products and the bias, as the body adds them: `y` the products, `b` the bias column, `H` and `W` the
    rows and columns. -/
abbrev taps : FVec Ideal S54x1024 .f32 :=
  k1_pay29 H W
    (k1_pay26 y H W
      (k1_pay21 y H W
        (k1_pay18 H W
          (k1_pay15 y H W (k1_pay11 y H v31 v33 v35 v37 v39) (k1_pay12 y) (k1_pay13 H) (k1_pay14 v31 v33 v35 v37 v39))
          (k1_pay16 y) (k1_pay17 H) 0#32)
        (k1_pay19 y) (Scalar.ofBits .f32 0x00000000#32) (k1_pay20 H W))
      (k1_pay22 y) (k1_pay23 H) (k1_pay24 W) k1_pay25)
    (k1_pay27 y) (k1_pay28 H) b

/-- The whole sum: the nine terms at a row and a position. -/
theorem taps_at (hW : k1_pay10 v31 v33 v35 v37 v39 = W) (r : Fin 54) (p : Fin 1024)
    (eH : H (ix2 0 p) = BitVec.ofNat 32 (p.val / 32)) (eW : W (ix2 0 p) = BitVec.ofNat 32 (p.val % 32)) :
    taps y b H W v31 v33 v35 v37 v39 (ix2 r p) = (∑ o, term y r p o) + b (ix2 r 0) := by
  rw [Cert.Maths.sum_nine]
  unfold taps
  rw [pay29_at, pay26_at, pay21_at, pay18_at, pay15_at, pay11_at y H W v31 v33 v35 v37 v39 hW, pay14_at W v31 v33 v35 v37 v39 hW,
    pay12_at, pay13_at, pay16_at, pay17_at, pay19_at, pay20_at, pay22_at, pay23_at, pay24_at, pay25_at, pay27_at, pay28_at]
  exact add_two (add_two (add_two (add_two (add_two (add_two (add_two (add_two (add_two (term_of y r p 0 _ ((congrArg₂ (mask 4294967295#32 4294967295#32) eH eW).trans (mask_at 0 p)) _ _ _ _ (by omega) (by simp only [src]; omega))
    (term_of y r p 1 _ ((congrArg₂ (mask 4294967295#32 0#32) eH eW).trans (mask_at 1 p)) _ _ _ _ (by omega) (by simp only [src]; omega)))
    (term_of y r p 2 _ ((congrArg₂ (mask 4294967295#32 1#32) eH eW).trans (mask_at 2 p)) _ _ _ _ (by omega) (by simp only [src]; omega)))
    (term_of y r p 3 _ ((congrArg₂ (mask 0#32 4294967295#32) eH eW).trans (mask_at 3 p)) _ _ _ _ (by omega) (by simp only [src]; omega)))
    (term_of y r p 4 _ ((congrArg₂ (mask 0#32 0#32) eH eW).trans (mask_at 4 p)) _ _ _ _ (by omega) (by simp only [src]; omega)))
    (term_of y r p 5 _ ((congrArg₂ (mask 0#32 1#32) eH eW).trans (mask_at 5 p)) _ _ _ _ (by omega) (by simp only [src]; omega)))
    (term_of y r p 6 _ ((congrArg₂ (mask 1#32 4294967295#32) eH eW).trans (mask_at 6 p)) _ _ _ _ (by omega) (by simp only [src]; omega)))
    (term_of y r p 7 _ ((congrArg₂ (mask 1#32 0#32) eH eW).trans (mask_at 7 p)) _ _ _ _ (by omega) (by simp only [src]; omega)))
    (term_of y r p 8 _ ((congrArg₂ (mask 1#32 1#32) eH eW).trans (mask_at 8 p)) _ _ _ _ (by omega) (by simp only [src]; omega))) rfl

end Cert.KernelIdeal.Own

end
-- ==== Proof.Own.Region1.lean ====
/- Region 1 of the kernel: what its three outputs hold, from the arrays it reads. -/
module

public import proofs.«01_k».proof.Proof.Own.KernelPay
public import Idealize.ShloMosaic.Lib.Pipeline.ValueKit

@[expose] public section

set_option maxRecDepth 16384

noncomputable section

namespace Cert.KernelIdeal.Own

open Cert.KernelIdeal Cert.KernelIdeal.Gen Idealize.ShloMosaic Idealize.ShloMosaic.TcCoe Cert.Taps

/-- A selection by a decided word is the conditional. -/
theorem select_ite (q : Prop) [Decidable q] (a b : EReal) : Scalar.select (if q then 1#1 else 0#1) a b = if q then a else b := by
  by_cases h : q <;> simp only [h, if_true, if_false] <;> rfl

/-- Row `r` at position `p`: the folded taps over the image `x0` and the folded bias. -/
def row (x0 : Vec Ideal S1x1024x1024 .f32) (x1 : Vec Ideal S486x1024 .f32) (x2 : Vec Ideal S54x128 .f32) (r : Fin 54) (p : Fin 1024) : EReal :=
  (∑ o : Fin 9, ∑ k : Fin 1024, x1 (ix2 ⟨54 * o.val + r.val, by omega⟩ k) * (if inside o p then x0 (ix3 0 k (src o p)) else 0)) + x2 (ix2 r 0)

/-- A decoded row from the row `reg`, the tables `s`, `b`, `m` and the exponentials picked by the permutation `q`. -/
def dec (reg : Fin 54 → Fin 1024 → EReal) (s b m : Vec Ideal S36x1024 .f32) (q : Vec Ideal S36x36 .f32) (r : Fin 36) (p : Fin 1024) : EReal :=
  reg ⟨r.val, by omega⟩ p * s (ix2 r p) + b (ix2 r p)
    + m (ix2 r p) * ∑ l : Fin 36, q (ix2 r l) * Ideal.exp (if l.val % 4 < 2 then 0 else reg ⟨l.val, by omega⟩ p)

/-- The product of all taps at an index. -/
theorem pay4_at (v0 : Vec Ideal S1x1024x1024 .f32) (v2 : Vec Ideal S486x1024 .f32) (r : Fin 486) (p : Fin 1024) :
    k1_pay4 v0 v2 (ix2 r p) = ∑ k, v2 (ix2 r k) * v0 (ix3 0 k p) := by
  pointwise [k1_pay4]

/-- A tap's masked term of the product. -/
theorem term_row (v0 : Vec Ideal S1x1024x1024 .f32) (v2 : Vec Ideal S486x1024 .f32) (r : Fin 54) (p : Fin 1024) (o : Fin 9) :
    term (k1_pay4 v0 v2) r p o
      = ∑ k : Fin 1024, v2 (ix2 ⟨54 * o.val + r.val, by omega⟩ k) * (if inside o p then v0 (ix3 0 k (src o p)) else 0) := by
  unfold term
  rw [pay4_at]
  exact Cert.Maths.masked_sum _ _ _

/-- The rows' kinds: `l % 4`, as the kernel computes it. -/
theorem kind_word : ∀ l : Fin 36, IntOp.cmpi CmpIPredicate.slt (k1_pay32 (ix2 l 0)) (k1_pay33 (ix2 l 0)) = if l.val % 4 < 2 then 1#1 else 0#1 := by
  intro l
  pointwise [k1_pay32, k1_pay33]
  revert l
  decide +kernel

/-- The decoding of a row. -/
theorem pay1_at (reg : FVec Ideal S36x1024 .f32) (q : Vec Ideal S36x36 .f32) (s b m : Vec Ideal S36x1024 .f32) (r : Fin 36) (p : Fin 1024) :
    k1_pay1 reg k1_pay32 k1_pay33 q s b m (ix3 0 r p)
      = reg (ix2 r p) * s (ix2 r p) + b (ix2 r p)
        + m (ix2 r p) * ∑ l : Fin 36, q (ix2 r l) * Ideal.exp (if l.val % 4 < 2 then 0 else reg (ix2 l p)) := by
  pointwise [k1_pay1]
  simp only [kind_word, select_ite]

variable (x0 : Vec Ideal S1x1024x1024 .f32) (x1 : Vec Ideal S486x1024 .f32) (x2 : Vec Ideal S54x128 .f32)
  (x3 x4 x5 : Vec Ideal S36x1024 .f32) (x6 : Vec Ideal S36x36 .f32)

/-- The nine terms and the bias make a row. -/
theorem rows_at (r : Fin 54) (p : Fin 1024) :
    k1_pay29 (k1_pay35 x0 x1 x2 x3 x4 x5 x6) (k1_pay40 x0 x1 x2 x3 x4 x5 x6) (k1_pay41 x0 x1 x2 x3 x4 x5 x6) (k1_pay42 x0 x1 x2 x3 x4 x5 x6)
      (k1_pay43 x0 x1 x2 x3 x4 x5 x6) (View.ld x2 r1_2) (ix2 r p) = row x0 x1 x2 r p := by
  refine (taps_at (k1_pay34 x0 x1 x2 x3 x4 x5 x6) (View.ld x2 r1_2) k1_pay5 (k1_pay40 x0 x1 x2 x3 x4 x5 x6) _ _ _ _ _ rfl r p (hword p) (wword p)).trans ?_
  unfold row
  refine add_two (Finset.sum_congr rfl fun o _ => ?_) ?_
  · refine (term_row _ _ r p o).trans ?_
    pointwise
  · pointwise

/-- The box rows that are decoded. -/
theorem reg_at (r : Fin 36) (p : Fin 1024) : k1_pay44 x0 x1 x2 x3 x4 x5 x6 (ix2 r p) = row x0 x1 x2 ⟨r.val, by omega⟩ p := by
  refine Eq.trans ?_ (rows_at x0 x1 x2 x3 x4 x5 x6 _ p)
  unfold k1_pay44
  pointwise [k1_pay30]

/-- The decoded rows that a step writes. -/
theorem out7_at (r : Fin 36) (p : Fin 1024) :
    out1_7 x0 x1 x2 x3 x4 x5 x6 (ix3 0 r p) = dec (row x0 x1 x2) x3 x4 x5 x6 r p := by
  frame_out
  refine (pay1_at _ _ _ _ _ r p).trans ?_
  simp only [reg_at]
  unfold dec
  pointwise

/-- The box rows that a step writes. -/
theorem out8_at (r : Fin 36) (p : Fin 1024) :
    out1_8 x0 x1 x2 x3 x4 x5 x6 (ix3 0 r p) = row x0 x1 x2 ⟨r.val, by omega⟩ p := by
  refine Eq.trans ?_ (reg_at x0 x1 x2 x3 x4 x5 x6 r p)
  unfold out1_8
  generalize k1_pay44 x0 x1 x2 x3 x4 x5 x6 = y
  frame_out
  pointwise [k1_pay2]

/-- The object rows that a step writes. -/
theorem out9_at (r : Fin 18) (p : Fin 1024) :
    out1_9 x0 x1 x2 x3 x4 x5 x6 (ix3 0 r p) = row x0 x1 x2 ⟨36 + r.val, by omega⟩ p := by
  refine Eq.trans ?_ (rows_at x0 x1 x2 x3 x4 x5 x6 _ p)
  unfold out1_9
  frame_out
  pointwise [k1_pay3, k1_pay31]

/-! ## The arrays the region leaves -/

variable (V : (c : Dev nD) → (b : Ref sig .tc) → Buf (Elt Ideal) ((c : Thread nD τ).loc b)) (c : Dev nD)

/-- The windows' blocks at a point: image `t` and the three outputs' rows `t`, everything else whole. -/
theorem idx : ∀ t : Fin cfg1.N, win1_0.index t = ![t.val, 0, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![t.val, 0, 0] ∧ win1_8.index t = ![t.val, 0, 0] ∧ win1_9.index t = ![t.val, 0, 0] :=
  (by decide +kernel : ∀ t : Fin grid1.N, _)

/-- The weights are given whole to every step. -/
theorem blk1 (t : Fin cfg1.N) : iblk1 V c 1 t = V c main_v9_0 := by blk_ext! [iblk1, idx t]
/-- So is the bias. -/
theorem blk2 (t : Fin cfg1.N) : iblk1 V c 2 t = V c main_v9_1 := by blk_ext! [iblk1, idx t]
/-- So is the table of sizes. -/
theorem blk3 (t : Fin cfg1.N) : iblk1 V c 3 t = V c main_cst := by blk_ext! [iblk1, idx t]
/-- So is the table of centres. -/
theorem blk4 (t : Fin cfg1.N) : iblk1 V c 4 t = V c main_cst_0 := by blk_ext! [iblk1, idx t]
/-- So is the table of the exponential's factors. -/
theorem blk5 (t : Fin cfg1.N) : iblk1 V c 5 t = V c main_cst_1 := by blk_ext! [iblk1, idx t]
/-- So is the permutation. -/
theorem blk6 (t : Fin cfg1.N) : iblk1 V c 6 t = V c main_cst_2 := by blk_ext! [iblk1, idx t]

/-- A step's image block at an index. -/
theorem blk0 (t : Fin cfg1.N) (k p : Fin 1024) : iblk1 V c 0 t (ix3 0 k p) = V c main_v0 (ix3 (⟨t.val, t.isLt⟩ : Fin 8) k p) := by
  blk_ext! [iblk1, idx t]

/-- Image `n` of the input. -/
def img (n : Fin 8) : Vec Ideal S1x1024x1024 .f32 := fun j => V c main_v0 (ix3 n (j 1) (j 2))

/-- Row `r` of image `n`. -/
def rowV (n : Fin 8) (r : Fin 54) (p : Fin 1024) : EReal := row (img V c n) (V c main_v9_0) (V c main_v9_1) r p

/-- A step's image block is that image. -/
theorem img_blk (t : Fin cfg1.N) : iblk1 V c 0 t = img V c ⟨t.val, t.isLt⟩ := by
  funext j
  obtain ⟨z, k, p, rfl⟩ : ∃ (z : Fin 1) (k p : Fin 1024), j = ix3 z k p := ⟨j 0, j 1, j 2, by idx_vars j⟩
  have hz : z = 0 := Subsingleton.elim _ _
  subst hz
  exact blk0 V c t k p

/-- Where a step writes the decoded rows. -/
theorem emb7 (t : Fin cfg1.N) (r : Fin 36) (p : Fin 1024) :
    ((win1_7.blk t).view.emb (ix3 0 r p) : S8x36x1024.Idx) = ix3 (⟨t.val, t.isLt⟩ : Fin 8) r p := by
  blk_ext! [idx t]

/-- Where a step writes the box rows. -/
theorem emb8 (t : Fin cfg1.N) (r : Fin 36) (p : Fin 1024) :
    ((win1_8.blk t).view.emb (ix3 0 r p) : S8x36x1024.Idx) = ix3 (⟨t.val, t.isLt⟩ : Fin 8) r p := by
  blk_ext! [idx t]

/-- Where a step writes the object rows. -/
theorem emb9 (t : Fin cfg1.N) (r : Fin 18) (p : Fin 1024) :
    ((win1_9.blk t).view.emb (ix3 0 r p) : S8x18x1024.Idx) = ix3 (⟨t.val, t.isLt⟩ : Fin 8) r p := by
  blk_ext! [idx t]

/-- An index of a block of 36 rows. -/
theorem of_ix36 (j : S1x36x1024.Idx) : ∃ (r : Fin 36) (p : Fin 1024), j = ix3 0 r p := by
  obtain ⟨z, r, p, rfl⟩ : ∃ (z : Fin 1) (r : Fin 36) (p : Fin 1024), j = ix3 z r p := ⟨j 0, j 1, j 2, by idx_vars j⟩
  exact ⟨r, p, congrArg (fun z => ix3 z r p) (Subsingleton.elim z 0)⟩

/-- An index of a block of 18 rows. -/
theorem of_ix18 (j : S1x18x1024.Idx) : ∃ (r : Fin 18) (p : Fin 1024), j = ix3 0 r p := by
  obtain ⟨z, r, p, rfl⟩ : ∃ (z : Fin 1) (r : Fin 18) (p : Fin 1024), j = ix3 z r p := ⟨j 0, j 1, j 2, by idx_vars j⟩
  exact ⟨r, p, congrArg (fun z => ix3 z r p) (Subsingleton.elim z 0)⟩

/-- The decoded boxes. -/
def G7 : S8x36x1024.Idx → EReal := fun j =>
  dec (rowV V c (j 0)) (V c main_cst) (V c main_cst_0) (V c main_cst_1) (V c main_cst_2) (j 1) (j 2)

/-- The box rows. -/
def G8 : S8x36x1024.Idx → EReal := fun j => rowV V c (j 0) ⟨(j 1).val, Nat.lt_trans (j 1).isLt (by decide)⟩ (j 2)

/-- The objectness rows. -/
def G9 : S8x18x1024.Idx → EReal := fun j => rowV V c (j 0) ⟨36 + (j 1).val, Nat.add_lt_add_left (j 1).isLt 36⟩ (j 2)

/-- The array of decoded rows after all steps. -/
theorem arr7 : (dat1 V c).arrAt 7 cfg1.N = G7 V c := by
  refine (dat1 V c).arrAt_eq_of_covers 7 _ (by decide +kernel) fun t hf y => ?_
  obtain ⟨r, p, rfl⟩ := of_ix36 y
  blk_simp
  rw [after1_7, blk1, blk2, blk3, blk4, blk5, blk6, img_blk]
  refine (out7_at _ _ _ _ _ _ _ r p).trans ?_
  exact (congrArg (G7 V c) (emb7 t r p)).symm

/-- The array of box rows after all steps. -/
theorem arr8 : (dat1 V c).arrAt 8 cfg1.N = G8 V c := by
  refine (dat1 V c).arrAt_eq_of_covers 8 _ (by decide +kernel) fun t hf y => ?_
  obtain ⟨r, p, rfl⟩ := of_ix36 y
  blk_simp
  rw [after1_8, blk1, blk2, blk3, blk4, blk5, blk6, img_blk]
  refine (out8_at _ _ _ _ _ _ _ r p).trans ?_
  exact (congrArg (G8 V c) (emb8 t r p)).symm

/-- The array of object rows after all steps. -/
theorem arr9 : (dat1 V c).arrAt 9 cfg1.N = G9 V c := by
  refine (dat1 V c).arrAt_eq_of_covers 9 _ (by decide +kernel) fun t hf y => ?_
  obtain ⟨r, p, rfl⟩ := of_ix18 y
  blk_simp
  rw [after1_9, blk1, blk2, blk3, blk4, blk5, blk6, img_blk]
  refine (out9_at _ _ _ _ _ _ _ r p).trans ?_
  exact (congrArg (G9 V c) (emb9 t r p)).symm

end Cert.KernelIdeal.Own

end
-- ==== Proof.Own.KernelHost.lean ====
/- The kernel program's host operations, read at an index: the arrays its regions are given, and the results laid out. -/
module

public import proofs.«01_k».proof.Proof.Gen.KernelIdeal.Launch
public import proofs.«01_k».proof.Proof.Gen.KernelIdeal.Frame
public import Idealize.ShloMosaic.Lib.Pointwise
public import Idealize.ShloMosaic.Lib.StableHlo.ReadAt

@[expose] public section

set_option maxRecDepth 16384

noncomputable section

namespace Cert.KernelIdeal.Own

open Cert.KernelIdeal Cert.KernelIdeal.Gen Idealize.ShloMosaic Idealize.ShloMosaic.TcCoe Idealize.ShloMosaic.StableHlo

variable (U : Valuation τ sig (Elt Ideal))

/-- The image with flat positions. -/
theorem v0_at (n : Fin 8) (k p : Fin 1024) : (after hostOps0 U (Proc.devRef .tc main_v0) : Vec Ideal S8x1024x1024 .f32) (ix3 n k p)
    = (U (Proc.devRef .tc main_arg0) : Vec Ideal S8x1024x32x32 .f32) (ix4 n k ⟨p.val / 32, by omega⟩ ⟨p.val % 32, by omega⟩) := by
  after_reads_at

/-- The first weights, tap by tap. -/
theorem v2_at (o : Fin 9) (h : Fin 256) (k : Fin 1024) :
    (after hostOps0 U (Proc.devRef .tc main_v2) : Vec Ideal S2304x1024 .f32) (ix2 ⟨256 * o.val + h.val, by omega⟩ k)
    = (U (Proc.devRef .tc main_arg1) : Vec Ideal S256x1024x3x3 .f32) (ix4 h k ⟨o.val / 3, by omega⟩ ⟨o.val % 3, by omega⟩) := by
  after_reads_at
  exact congrArg₂ (fun a b => (U (Proc.devRef .tc main_arg1) : Vec Ideal S256x1024x3x3 .f32) (ix4 h k a b)) (Fin.ext (by dsimp only; omega)) (Fin.ext (by dsimp only; omega))

/-- The joined weights: the box rows. -/
theorem v5_lo (r : Fin 36) (h : Fin 256) :
    (after hostOps0 U (Proc.devRef .tc main_v5) : Vec Ideal S54x256 .f32) (ix2 ⟨r.val, by omega⟩ h)
    = (U (Proc.devRef .tc main_arg3) : Vec Ideal S36x256x1x1 .f32) (ix4 r h 0 0) := by
  after_reads_at

/-- The joined weights: the object rows. -/
theorem v5_hi (r : Fin 18) (h : Fin 256) :
    (after hostOps0 U (Proc.devRef .tc main_v5) : Vec Ideal S54x256 .f32) (ix2 ⟨36 + r.val, by omega⟩ h)
    = (U (Proc.devRef .tc main_arg5) : Vec Ideal S18x256x1x1 .f32) (ix4 r h 0 0) := by
  after_reads_at

/-- The first bias as a row. -/
theorem v6_at (h : Fin 256) :
    (after hostOps0 U (Proc.devRef .tc main_v6) : Vec Ideal S1x256 .f32) (ix2 0 h)
    = (U (Proc.devRef .tc main_arg2) : Vec Ideal S256 .f32) (ix1 h) := by
  after_reads_at

/-- The joined biases: the box rows. -/
theorem v8_lo (r : Fin 36) :
    (after hostOps0 U (Proc.devRef .tc main_v8) : Vec Ideal S54x1 .f32) (ix2 ⟨r.val, by omega⟩ 0)
    = (U (Proc.devRef .tc main_arg4) : Vec Ideal S36 .f32) (ix1 r) := by
  after_reads_at
  exact congrFun (upto_unwritten (ops := hostOps0) (n := 12) (r := main_arg4) (hostOps0_W.take 12) rfl (by decide) U) (ix1 r)

/-- The joined biases: the object rows. -/
theorem v8_hi (r : Fin 18) :
    (after hostOps0 U (Proc.devRef .tc main_v8) : Vec Ideal S54x1 .f32) (ix2 ⟨36 + r.val, by omega⟩ 0)
    = (U (Proc.devRef .tc main_arg6) : Vec Ideal S18 .f32) (ix1 r) := by
  after_reads_at
  exact congrFun (upto_unwritten (ops := hostOps0) (n := 12) (r := main_arg6) (hostOps0_W.take 12) rfl (by decide) U) (ix1 r)

/-- The table of sizes. -/
theorem cst_at (r : Fin 36) (p : Fin 1024) : (after hostOps0 U (Proc.devRef .tc main_cst) : Vec Ideal S36x1024 .f32) (ix2 r p)
    = Ideal.ofBits .f32 (lit0t (r.val * 1024 + p.val)) := by
  after_reads_at
  exact congrArg (fun i => Ideal.ofBits .f32 (lit0t i)) (Shape.rowMajor_val_two (d := ![36, 1024]) (ix2 r p))

/-- The table of centres. -/
theorem cst0_at (r : Fin 36) (p : Fin 1024) : (after hostOps0 U (Proc.devRef .tc main_cst_0) : Vec Ideal S36x1024 .f32) (ix2 r p)
    = Ideal.ofBits .f32 (lit1t (r.val * 1024 + p.val)) := by
  after_reads_at
  exact congrArg (fun i => Ideal.ofBits .f32 (lit1t i)) (Shape.rowMajor_val_two (d := ![36, 1024]) (ix2 r p))

/-- The table of the factors of the exponential. -/
theorem cst1_at (r : Fin 36) (p : Fin 1024) : (after hostOps0 U (Proc.devRef .tc main_cst_1) : Vec Ideal S36x1024 .f32) (ix2 r p)
    = Ideal.ofBits .f32 (lit2t (r.val * 1024 + p.val)) := by
  after_reads_at
  exact congrArg (fun i => Ideal.ofBits .f32 (lit2t i)) (Shape.rowMajor_val_two (d := ![36, 1024]) (ix2 r p))

/-- The anchors. -/
theorem cst3_at (a : Fin 9216) (q : Fin 4) : (after hostOps0 U (Proc.devRef .tc main_cst_3) : Vec Ideal S9216x4 .f32) (ix2 a q)
    = Ideal.ofBits .f32 (lit4t (a.val * 4 + q.val)) := by
  after_reads_at
  exact congrArg (fun i => Ideal.ofBits .f32 (lit4t i)) (Shape.rowMajor_val_two (d := ![9216, 4]) (ix2 a q))

/-- The permutation. -/
theorem cst2_at (r l : Fin 36) : (after hostOps0 U (Proc.devRef .tc main_cst_2) : Vec Ideal S36x36 .f32) (ix2 r l)
    = Ideal.ofBits .f32 (lit3t (r.val * 36 + l.val)) := by
  after_reads_at
  exact congrArg (fun i => Ideal.ofBits .f32 (lit3t i)) (Shape.rowMajor_val_two (d := ![36, 36]) (ix2 r l))

/-- The decoded boxes laid out by box. -/
theorem v12_at (n : Fin 8) (p : Fin 1024) (k : Fin 9) (q : Fin 4) :
    (after hostOps2 U (Proc.devRef .tc main_v12) : Vec Ideal S8x9216x4 .f32) (ix3 n ⟨9 * p.val + k.val, by omega⟩ q)
    = (U (Proc.devRef .tc main_v10_0) : Vec Ideal S8x36x1024 .f32) (ix3 n ⟨4 * k.val + q.val, by omega⟩ p) := by
  after_reads_at
  exact congrArg (fun a => (U (Proc.devRef .tc main_v10_0) : Vec Ideal S8x36x1024 .f32) (ix3 n a p)) (Fin.ext (by dsimp only; omega))

/-- The box rows laid out by box. -/
theorem v14_at (n : Fin 8) (p : Fin 1024) (k : Fin 9) (q : Fin 4) :
    (after hostOps2 U (Proc.devRef .tc main_v14) : Vec Ideal S8x9216x4 .f32) (ix3 n ⟨9 * p.val + k.val, by omega⟩ q)
    = (U (Proc.devRef .tc main_v10_1) : Vec Ideal S8x36x1024 .f32) (ix3 n ⟨4 * k.val + q.val, by omega⟩ p) := by
  after_reads_at
  exact congrArg (fun a => (U (Proc.devRef .tc main_v10_1) : Vec Ideal S8x36x1024 .f32) (ix3 n a p)) (Fin.ext (by dsimp only; omega))

/-- The object rows laid out by box. -/
theorem v16_at (n : Fin 8) (p : Fin 1024) (k : Fin 9) (q : Fin 2) :
    (after hostOps2 U (Proc.devRef .tc main_v16) : Vec Ideal S8x9216x2 .f32) (ix3 n ⟨9 * p.val + k.val, by omega⟩ q)
    = (U (Proc.devRef .tc main_v10_2) : Vec Ideal S8x18x1024 .f32) (ix3 n ⟨2 * k.val + q.val, by omega⟩ p) := by
  after_reads_at
  exact congrArg (fun a => (U (Proc.devRef .tc main_v10_2) : Vec Ideal S8x18x1024 .f32) (ix3 n a p)) (Fin.ext (by dsimp only; omega))

/-- The anchors repeated for every image. -/
theorem v20_at (n : Fin 8) (a : Fin 9216) (q : Fin 4) :
    (after hostOps2 U (Proc.devRef .tc main_v20) : Vec Ideal S8x9216x4 .f32) (ix3 n a q)
    = (U (Proc.devRef .tc main_cst_3) : Vec Ideal S9216x4 .f32) (ix2 a q) := by
  after_reads_at

end Cert.KernelIdeal.Own

end
-- ==== Proof.Own.KernelValue.lean ====
/- The kernel program's rows from its arguments: the folded taps over the image and the folded bias. -/
module

public import proofs.«01_k».proof.Proof.Own.Region0
public import proofs.«01_k».proof.Proof.Own.Region1
public import proofs.«01_k».proof.Proof.Own.KernelHost

@[expose] public section

set_option maxRecDepth 16384

noncomputable section

namespace Cert.KernelIdeal.Own

open Cert.KernelIdeal Cert.KernelIdeal.Gen Idealize.ShloMosaic Idealize.ShloMosaic.TcCoe Idealize.ShloMosaic.StableHlo Cert.Taps

section Args

variable (U : Valuation τ sig (Elt Ideal))

/-- The arguments, element by element. -/
def ax (n : Fin 8) (k : Fin 1024) (y x : Fin 32) : EReal := (U (Proc.devRef .tc main_arg0) : Vec Ideal S8x1024x32x32 .f32) (ix4 n k y x)
def aw (h : Fin 256) (k : Fin 1024) (a b : Fin 3) : EReal := (U (Proc.devRef .tc main_arg1) : Vec Ideal S256x1024x3x3 .f32) (ix4 h k a b)
def ab (h : Fin 256) : EReal := (U (Proc.devRef .tc main_arg2) : Vec Ideal S256 .f32) (ix1 h)
def awb (r : Fin 36) (h : Fin 256) : EReal := (U (Proc.devRef .tc main_arg3) : Vec Ideal S36x256x1x1 .f32) (ix4 r h 0 0)
def abb (r : Fin 36) : EReal := (U (Proc.devRef .tc main_arg4) : Vec Ideal S36 .f32) (ix1 r)
def awo (r : Fin 18) (h : Fin 256) : EReal := (U (Proc.devRef .tc main_arg5) : Vec Ideal S18x256x1x1 .f32) (ix4 r h 0 0)
def abo (r : Fin 18) : EReal := (U (Proc.devRef .tc main_arg6) : Vec Ideal S18 .f32) (ix1 r)

end Args

variable (m : (ℓ : Loc nD τ sig) → Buf (Elt Ideal) ℓ) (ρ : Dev nD → PrngReg) (c : Dev nD)

/-- The stacked second weights and biases the first region is given. -/
def w54 (r : Fin 54) (h : Fin 256) : EReal := (W1 m ρ c (Proc.devRef .tc main_v5) : Vec Ideal S54x256 .f32) (ix2 r h)
def b54 (r : Fin 54) : EReal := (W1 m ρ c (Proc.devRef .tc main_v8) : Vec Ideal S54x1 .f32) (ix2 r 0)

/-- Equal summands, equal sums. -/
theorem eq_add {a b c d : EReal} (h : a = c) (h' : b = d) : a + b = c + d := by rw [h, h']
/-- Equal factors, equal products. -/
theorem eq_mul {a b c d : EReal} (h : a = c) (h' : b = d) : a * b = c * d := by rw [h, h']

/-- Region 0's folded weights, from the arguments. -/
theorem wts_at (o : Fin 9) (r : Fin 54) (k : Fin 1024) :
    (V2 m ρ c main_v9_0 : Vec Ideal S486x1024 .f32) (ix2 ⟨54 * o.val + r.val, by omega⟩ k)
      = ∑ h : Fin 256, w54 m ρ c r h * aw (W0 m ρ c) h k ⟨o.val / 3, by omega⟩ ⟨o.val % 3, by omega⟩ := by
  have e : wgt (V1 m ρ c main_v2) (V1 m ρ c main_v5) o r k
      = ∑ h : Fin 256, w54 m ρ c r h * aw (W0 m ρ c) h k ⟨o.val / 3, by omega⟩ ⟨o.val % 3, by omega⟩ := by
    unfold wgt
    exact Finset.sum_congr rfl fun h _ => eq_mul rfl (v2_at (W0 m ρ c) o h k)
  exact ((congrFun (W2_arr m ρ c 4) _).trans (arr4 (V1 m ρ) c o r k)).trans e

/-- Region 0's folded bias, from the arguments. -/
theorem bias_at (r : Fin 54) :
    (V2 m ρ c main_v9_1 : Vec Ideal S54x128 .f32) (ix2 r 0) = (∑ h : Fin 256, w54 m ρ c r h * ab (W0 m ρ c) h) + b54 m ρ c r := by
  have e : bias (V1 m ρ c main_v5) (V1 m ρ c main_v6) (V1 m ρ c main_v8) r = (∑ h : Fin 256, w54 m ρ c r h * ab (W0 m ρ c) h) + b54 m ρ c r := by
    unfold bias
    exact eq_add (Finset.sum_congr rfl fun h _ => eq_mul rfl (v6_at (W0 m ρ c) h)) rfl
  exact ((congrFun (W2_arr m ρ c 5) _).trans (arr5 (V1 m ρ) c r 0)).trans e

/-- The image that region 1 is given is the first argument with its positions flat. -/
theorem img_at (n : Fin 8) (k p : Fin 1024) :
    img (V2 m ρ) c n (ix3 0 k p) = ax (W0 m ρ c) n k ⟨p.val / 32, by omega⟩ ⟨p.val % 32, by omega⟩ := by
  show (W2 m ρ c (Proc.devRef .tc main_v0) : Vec Ideal S8x1024x1024 .f32) (ix3 n k p) = _
  exact (congrFun (W2_of m ρ c main_v0 (by decide)) _).trans (v0_at (W0 m ρ c) n k p)

/-- Region 1's row is the folded row of the arguments. -/
theorem rowV_eq (n : Fin 8) (r : Fin 54) (p : Fin 1024) :
    rowV (V2 m ρ) c n r p
      = (∑ o : Fin 9, ∑ k : Fin 1024, (∑ h : Fin 256, w54 m ρ c r h * aw (W0 m ρ c) h k ⟨o.val / 3, by omega⟩ ⟨o.val % 3, by omega⟩)
          * (if inside o p then ax (W0 m ρ c) n k ⟨(src o p).val / 32, by omega⟩ ⟨(src o p).val % 32, by omega⟩ else 0))
        + ((∑ h : Fin 256, w54 m ρ c r h * ab (W0 m ρ c) h) + b54 m ρ c r) := by
  unfold rowV row
  refine eq_add (Finset.sum_congr rfl fun o _ => Finset.sum_congr rfl fun k _ => eq_mul (wts_at m ρ c o r k) ?_) (bias_at m ρ c r)
  rw [img_at]

/-- The constants the second region reads are those the first stretch of host operations wrote. -/
theorem cst_V2 : V2 m ρ c main_cst = W1 m ρ c (Proc.devRef .tc main_cst) := W2_of m ρ c main_cst (by decide)
/-- The constant tables reach region 1 as the host made them. -/
theorem cst0_V2 : V2 m ρ c main_cst_0 = W1 m ρ c (Proc.devRef .tc main_cst_0) := W2_of m ρ c main_cst_0 (by decide)
/-- The second table of the decoding, likewise. -/
theorem cst1_V2 : V2 m ρ c main_cst_1 = W1 m ρ c (Proc.devRef .tc main_cst_1) := W2_of m ρ c main_cst_1 (by decide)
/-- The permutation, likewise. -/
theorem cst2_V2 : V2 m ρ c main_cst_2 = W1 m ρ c (Proc.devRef .tc main_cst_2) := W2_of m ρ c main_cst_2 (by decide)
/-- The anchor table reaches the last host operations as made. -/
theorem cst3_W3 : W3 m ρ c (Proc.devRef .tc main_cst_3) = W1 m ρ c (Proc.devRef .tc main_cst_3) :=
  (W3_of m ρ c main_cst_3 (by decide)).trans (W2_of m ρ c main_cst_3 (by decide))

/-- The four results, row by row. -/
theorem res12 (n : Fin 8) (p : Fin 1024) (k : Fin 9) (q : Fin 4) :
    (W4 m ρ c (Proc.devRef .tc main_v12) : Vec Ideal S8x9216x4 .f32) (ix3 n ⟨9 * p.val + k.val, by omega⟩ q)
      = dec (rowV (V2 m ρ) c n) (W1 m ρ c (Proc.devRef .tc main_cst)) (W1 m ρ c (Proc.devRef .tc main_cst_0)) (W1 m ρ c (Proc.devRef .tc main_cst_1))
          (W1 m ρ c (Proc.devRef .tc main_cst_2)) ⟨4 * k.val + q.val, by omega⟩ p := by
  refine (v12_at (W3 m ρ c) n p k q).trans ?_
  refine (congrFun ((W3_arr m ρ c 7).trans (arr7 (V2 m ρ) c)) _).trans ?_
  rw [← cst_V2, ← cst0_V2, ← cst1_V2, ← cst2_V2]
  rfl

/-- Result 2: the box rows. -/
theorem res14 (n : Fin 8) (p : Fin 1024) (k : Fin 9) (q : Fin 4) :
    (W4 m ρ c (Proc.devRef .tc main_v14) : Vec Ideal S8x9216x4 .f32) (ix3 n ⟨9 * p.val + k.val, by omega⟩ q)
      = rowV (V2 m ρ) c n ⟨4 * k.val + q.val, by omega⟩ p :=
  (v14_at (W3 m ρ c) n p k q).trans (congrFun ((W3_arr m ρ c 8).trans (arr8 (V2 m ρ) c)) _)

/-- Result 3: the object rows. -/
theorem res16 (n : Fin 8) (p : Fin 1024) (k : Fin 9) (q : Fin 2) :
    (W4 m ρ c (Proc.devRef .tc main_v16) : Vec Ideal S8x9216x2 .f32) (ix3 n ⟨9 * p.val + k.val, by omega⟩ q)
      = rowV (V2 m ρ) c n ⟨36 + (2 * k.val + q.val), by omega⟩ p :=
  (v16_at (W3 m ρ c) n p k q).trans (congrFun ((W3_arr m ρ c 9).trans (arr9 (V2 m ρ) c)) _)

/-- Result 4: the anchors. -/
theorem res20 (n : Fin 8) (a : Fin 9216) (q : Fin 4) :
    (W4 m ρ c (Proc.devRef .tc main_v20) : Vec Ideal S8x9216x4 .f32) (ix3 n a q) = Ideal.ofBits .f32 (lit4t (a.val * 4 + q.val)) :=
  (v20_at (W3 m ρ c) n a q).trans ((congrFun (cst3_W3 m ρ c) _).trans (cst3_at (W0 m ρ c) a q))

/-- The first 36 rows of the joined weights are the box weights. -/
theorem w54_lo (r : Fin 36) (h : Fin 256) : w54 m ρ c ⟨r.val, by omega⟩ h = awb (W0 m ρ c) r h := v5_lo (W0 m ρ c) r h
/-- The other 18 are the object weights. -/
theorem w54_hi (r : Fin 18) (h : Fin 256) : w54 m ρ c ⟨36 + r.val, by omega⟩ h = awo (W0 m ρ c) r h := v5_hi (W0 m ρ c) r h
/-- The first 36 joined biases are the box biases. -/
theorem b54_lo (r : Fin 36) : b54 m ρ c ⟨r.val, by omega⟩ = abb (W0 m ρ c) r := v8_lo (W0 m ρ c) r
/-- The other 18 are the object biases. -/
theorem b54_hi (r : Fin 18) : b54 m ρ c ⟨36 + r.val, by omega⟩ = abo (W0 m ρ c) r := v8_hi (W0 m ρ c) r

end Cert.KernelIdeal.Own

end
-- ==== Proof.Own.Spec.lean ====
/- One row of the two convolutions, as the reference reads: the nine masked taps, the first bias, the second weights, the
   second bias. The kernel's folded form of the same row equals it when the taps and the weights are real. -/
module

public import proofs.«01_k».proof.Proof.Own.Maths
public import proofs.«01_k».proof.Proof.Own.Taps

@[expose] public section

noncomputable section

namespace Cert.Spec

open Cert.Taps

variable {R : ℕ} (X : Fin 8 → Fin 1024 → Fin 32 → Fin 32 → EReal) (W : Fin 256 → Fin 1024 → Fin 3 → Fin 3 → EReal) (B : Fin 256 → EReal)
  (w : Fin R → Fin 256 → EReal) (b : Fin R → EReal)

/-- The image under tap `o` at position `p`, zero outside. -/
def tap (n : Fin 8) (p : Fin 1024) (o : Fin 9) (k : Fin 1024) : EReal :=
  if inside o p then X n k ⟨(src o p).val / 32, by omega⟩ ⟨(src o p).val % 32, by omega⟩ else 0

/-- Row `r` of image `n` at position `p`. -/
def out (n : Fin 8) (r : Fin R) (p : Fin 1024) : EReal :=
  (∑ h : Fin 256, ((∑ o : Fin 9, ∑ k : Fin 1024, tap X n p o k * W h k ⟨o.val / 3, by omega⟩ ⟨o.val % 3, by omega⟩) + B h) * w r h) + b r

/-- A tap of a real image is real. -/
theorem tap_real (hX : ∀ n k y x, ∃ r : ℝ, X n k y x = r) (n : Fin 8) (p : Fin 1024) (o : Fin 9) (k : Fin 1024) : ∃ r : ℝ, tap X n p o k = r := by
  unfold tap
  by_cases h : inside o p
  · rw [if_pos h]; exact hX _ _ _ _
  · rw [if_neg h]; exact ⟨0, rfl⟩

/-- The folded form. -/
theorem folded (hX : ∀ n k y x, ∃ r : ℝ, X n k y x = r) (hW : ∀ h k a b, ∃ r : ℝ, W h k a b = r) (hw : ∀ r h, ∃ s : ℝ, w r h = s)
    (n : Fin 8) (r : Fin R) (p : Fin 1024) :
    (∑ o : Fin 9, ∑ k : Fin 1024, (∑ h : Fin 256, w r h * W h k ⟨o.val / 3, by omega⟩ ⟨o.val % 3, by omega⟩) * tap X n p o k)
        + ((∑ h : Fin 256, w r h * B h) + b r)
      = out X W B w b n r p :=
  (Cert.Maths.fold (fun o k => tap X n p o k) (fun (h : Fin 256) (o : Fin 9) k => W h k ⟨o.val / 3, by omega⟩ ⟨o.val % 3, by omega⟩) (w r) B (b r)
    (fun o k => tap_real X hX n p o k) (fun _ _ _ => hW _ _ _ _) (hw r)).symm

end Cert.Spec

end
-- ==== Proof.Own.Anchors.lean ====
/- Two tables read whole: the kernel's anchors are the reference's, and the kernel's permutation is the one that moves
   each anchor's two sizes onto its two corners. -/
module

public import proofs.«01_k».proof.KernelIdeal
public import proofs.«01_k».proof.ReferenceIdeal

@[expose] public section

set_option maxRecDepth 100000

namespace Cert.Anchors

/-- The two programs hold the same anchor table. -/
theorem anchors_eq : Cert.KernelIdeal.lit4t = Cert.ReferenceIdeal.lit0t := rfl

/-- Row `l` of the permutation has its one at `l + 2` for a corner's row and at `l` for a size's. -/
theorem perm_word : ∀ l, l < 36 → ∀ k, k < 36 →
    Nat.beq (Cert.KernelIdeal.lit3t (l * 36 + k)).toNat (if k = (if l % 4 < 2 then l + 2 else l) then 1065353216 else 0) = true := by
  decide +kernel

end Cert.Anchors

end
-- ==== Proof.Own.KernelRows.lean ====
/- The kernel program's four results, from its arguments. -/
module

public import proofs.«01_k».proof.Proof.Own.KernelValue
public import proofs.«01_k».proof.Proof.Own.Spec
public import proofs.«01_k».proof.Proof.Own.Anchors
public import Idealize.ShloMosaic.Lib.IdealHost

@[expose] public section

set_option maxRecDepth 16384

noncomputable section

namespace Cert.KernelIdeal.Own

open Cert.KernelIdeal Cert.KernelIdeal.Gen Idealize.ShloMosaic Idealize.ShloMosaic.TcCoe Idealize.ShloMosaic.StableHlo Cert.Taps

/-- Each corner's row is moved to its size's row; a size's row stays. -/
def perm (r : Fin 36) : Fin 36 := ⟨if r.val % 4 < 2 then r.val + 2 else r.val, by split <;> omega⟩

/-- The permutation table is one at its permuted column and zero elsewhere. -/
theorem perm_val (r l : Fin 36) : Ideal.ofBits .f32 (lit3t (r.val * 36 + l.val)) = if l = perm r then 1 else 0 := by
  have h := Nat.eq_of_beq_eq_true (Cert.Anchors.perm_word r.val r.isLt l.val l.isLt)
  by_cases hl : l = perm r
  · have hv : l.val = if r.val % 4 < 2 then r.val + 2 else r.val := congrArg Fin.val hl
    rw [if_pos hv] at h
    rw [if_pos hl, show lit3t (r.val * 36 + l.val) = 0x3F800000#32 from BitVec.eq_of_toNat_eq h, Ideal.ofBits_one_f32]
  · have hv : ¬ l.val = if r.val % 4 < 2 then r.val + 2 else r.val := fun e => hl (Fin.ext e)
    rw [if_neg hv] at h
    rw [if_neg hl, show lit3t (r.val * 36 + l.val) = 0#32 from BitVec.eq_of_toNat_eq h, Ideal.ofBits_zero_f32]

variable (m : (ℓ : Loc nD τ sig) → Buf (Elt Ideal) ℓ) (ρ : Dev nD → PrngReg) (c : Dev nD)

/-- The permutation's table, element by element. -/
def pm (r l : Fin 36) : EReal := (W1 m ρ c (Proc.devRef .tc main_cst_2) : Vec Ideal S36x36 .f32) (ix2 r l)

/-- The same of the array that region 1 is given. -/
theorem perm_at (r l : Fin 36) : pm m ρ c r l = if l = perm r then 1 else 0 :=
  (cst2_at (W0 m ρ c) r l).trans (perm_val r l)

/-- A decoded row: the permutation's sum is the exponential of the size's row. -/
theorem dec_at (reg : Fin 54 → Fin 1024 → EReal) (r : Fin 36) (p : Fin 1024) :
    dec reg (W1 m ρ c (Proc.devRef .tc main_cst)) (W1 m ρ c (Proc.devRef .tc main_cst_0)) (W1 m ρ c (Proc.devRef .tc main_cst_1))
        (W1 m ρ c (Proc.devRef .tc main_cst_2)) r p
      = reg ⟨r.val, by omega⟩ p * Ideal.ofBits .f32 (lit0t (r.val * 1024 + p.val)) + Ideal.ofBits .f32 (lit1t (r.val * 1024 + p.val))
        + Ideal.ofBits .f32 (lit2t (r.val * 1024 + p.val)) * Ideal.exp (reg ⟨(perm r).val, by omega⟩ p) := by
  have hs : (∑ l : Fin 36, pm m ρ c r l
      * Ideal.exp (if l.val % 4 < 2 then 0 else reg ⟨l.val, by omega⟩ p)) = Ideal.exp (reg ⟨(perm r).val, by omega⟩ p) := by
    refine (Cert.Maths.pick (perm r) _ _ (perm_at m ρ c r)).trans ?_
    rw [if_neg]
    unfold perm
    dsimp only
    split <;> omega
  unfold dec
  exact eq_add (eq_add (eq_mul rfl (cst_at (W0 m ρ c) r p)) (cst0_at (W0 m ρ c) r p)) (eq_mul (cst1_at (W0 m ρ c) r p) hs)

variable (hX : ∀ n k y x, ∃ r : ℝ, ax (W0 m ρ c) n k y x = r) (hW : ∀ h k a b, ∃ r : ℝ, aw (W0 m ρ c) h k a b = r)
  (hb : ∀ r h, ∃ s : ℝ, awb (W0 m ρ c) r h = s) (ho : ∀ r h, ∃ s : ℝ, awo (W0 m ρ c) r h = s)

include hX hW hb in
/-- The box rows. -/
theorem row_lo (n : Fin 8) (r : Fin 36) (p : Fin 1024) :
    rowV (V2 m ρ) c n ⟨r.val, by omega⟩ p
      = Cert.Spec.out (ax (W0 m ρ c)) (aw (W0 m ρ c)) (ab (W0 m ρ c)) (awb (W0 m ρ c)) (abb (W0 m ρ c)) n r p := by
  rw [rowV_eq]
  simp only [w54_lo, b54_lo]
  exact Cert.Spec.folded (ax (W0 m ρ c)) (aw (W0 m ρ c)) (ab (W0 m ρ c)) (awb (W0 m ρ c)) (abb (W0 m ρ c)) hX hW hb n r p

include hX hW ho in
/-- The objectness rows. -/
theorem row_hi (n : Fin 8) (r : Fin 18) (p : Fin 1024) :
    rowV (V2 m ρ) c n ⟨36 + r.val, by omega⟩ p
      = Cert.Spec.out (ax (W0 m ρ c)) (aw (W0 m ρ c)) (ab (W0 m ρ c)) (awo (W0 m ρ c)) (abo (W0 m ρ c)) n r p := by
  rw [rowV_eq]
  simp only [w54_hi, b54_hi]
  exact Cert.Spec.folded (ax (W0 m ρ c)) (aw (W0 m ρ c)) (ab (W0 m ρ c)) (awo (W0 m ρ c)) (abo (W0 m ρ c)) hX hW ho n r p

end Cert.KernelIdeal.Own

end
-- ==== Proof.Own.RefA.lean ====
/- The 3×3 convolution of the reference at an index: nine taps over the image, read as zero outside of it. -/
module

public import proofs.«01_k».proof.Proof.Own.RefRun
public import proofs.«01_k».proof.Proof.Own.Maths
public import Idealize.ShloMosaic.Lib.Pointwise
public import Idealize.ShloMosaic.Lib.StableHlo.ReadAt

@[expose] public section

set_option maxRecDepth 16384

noncomputable section

namespace Cert.ReferenceIdeal.Own

open Cert.ReferenceIdeal Cert.ReferenceIdeal.Gen Idealize.ShloMosaic Idealize.ShloMosaic.TcCoe Idealize.ShloMosaic.StableHlo

variable (U : Valuation τ sig (Elt Ideal))

/-- The image at row `y + dy - 1`, column `x + dx - 1`; zero outside. -/
def xin (n : Fin 8) (k : Fin 1024) (y x : Fin 32) (dy dx : ℕ) : EReal :=
  if h : (1 ≤ y.val + dy ∧ y.val + dy < 33) ∧ (1 ≤ x.val + dx ∧ x.val + dx < 33) then
    (U (Proc.devRef .tc main_arg0) : Vec Ideal S8x1024x32x32 .f32) (ix4 n k ⟨y.val + dy - 1, by omega⟩ ⟨x.val + dx - 1, by omega⟩)
  else 0

/-- The 3×3 weights. -/
def w1 (h : Fin 256) (k : Fin 1024) (a b : Fin 3) : EReal := (U (Proc.devRef .tc main_arg1) : Vec Ideal S256x1024x3x3 .f32) (ix4 h k a b)

/-- The 3×3 biases. -/
def b1 (h : Fin 256) : EReal := (U (Proc.devRef .tc main_arg2) : Vec Ideal S256 .f32) (ix1 h)

/-- The padding is the real zero. -/
theorem pad_word : (FloatOps.sitofp (F := Ideal) FTy.f32 (0#32) : EReal) = 0 := by
  show (((0#32).toInt : ℝ) : EReal) = 0
  simp

/-- A padded element whose inside condition is the other one, and whose padding is zero. -/
theorem dite_eq {P Q : Prop} [Decidable P] [Decidable Q] {f : P → EReal} {g : Q → EReal} {z : EReal} (hPQ : P ↔ Q) (hz : z = 0)
    (h : ∀ hp hq, f hp = g hq) : (if hp : P then f hp else z) = if hq : Q then g hq else 0 := by
  by_cases hp : P
  · rw [dif_pos hp, dif_pos (hPQ.1 hp)]; exact h _ _
  · rw [dif_neg hp, dif_neg (fun hq => hp (hPQ.2 hq))]; exact hz

/-- A conditional whose condition holds is its first branch. -/
theorem eq_dite {Q : Prop} [Decidable Q] {z : EReal} {g : Q → EReal} (hQ : Q)
    (h : ∀ hq, z = g hq) : z = if hq : Q then g hq else 0 := by
  rw [dif_pos hQ]; exact h hQ

/-- Equal summands, equal sums. -/
theorem add_both {a b c d : EReal} (h : a = c) (h' : b = d) : a + b = c + d := by rw [h, h']

/-- The first convolution with its bias, at a channel and a position. -/
theorem v56_at (n : Fin 8) (h : Fin 256) (y x : Fin 32) :
    (after opsA U (Proc.devRef .tc main_v56) : Vec Ideal S8x256x32x32 .f32) (ix4 n h y x)
      = (∑ o : Fin 9, ∑ k : Fin 1024, xin U n k y x (o.val / 3) (o.val % 3) * w1 U h k ⟨o.val / 3, by omega⟩ ⟨o.val % 3, by omega⟩) + b1 U h := by
  after_reads_at
  rw [Cert.Maths.sum_nine]
  refine add_both (add_both (add_both (add_both (add_both (add_both (add_both (add_both (add_both ?_ ?_) ?_) ?_) ?_) ?_) ?_) ?_) ?_) rfl
  · refine Finset.sum_congr rfl fun k _ => congrArg₂ (· * ·) (?_ : _ = xin U n k y x 0 0) rfl
    unfold xin
    exact dite_eq (by omega) pad_word (fun hp hq => congrArg₂ (fun a b => (U (Proc.devRef .tc main_arg0) : Vec Ideal S8x1024x32x32 .f32) (ix4 n k a b))
      (Fin.ext (by dsimp only; omega)) (Fin.ext (by dsimp only; omega)))
  · refine Finset.sum_congr rfl fun k _ => congrArg₂ (· * ·) (?_ : _ = xin U n k y x 0 1) rfl
    unfold xin
    exact dite_eq (by omega) pad_word (fun hp hq => congrArg₂ (fun a b => (U (Proc.devRef .tc main_arg0) : Vec Ideal S8x1024x32x32 .f32) (ix4 n k a b))
      (Fin.ext (by dsimp only; omega)) (Fin.ext (by dsimp only; omega)))
  · refine Finset.sum_congr rfl fun k _ => congrArg₂ (· * ·) (?_ : _ = xin U n k y x 0 2) rfl
    unfold xin
    exact dite_eq (by omega) pad_word (fun hp hq => congrArg₂ (fun a b => (U (Proc.devRef .tc main_arg0) : Vec Ideal S8x1024x32x32 .f32) (ix4 n k a b))
      (Fin.ext (by dsimp only; omega)) (Fin.ext (by dsimp only; omega)))
  · refine Finset.sum_congr rfl fun k _ => congrArg₂ (· * ·) (?_ : _ = xin U n k y x 1 0) rfl
    unfold xin
    exact dite_eq (by omega) pad_word (fun hp hq => congrArg₂ (fun a b => (U (Proc.devRef .tc main_arg0) : Vec Ideal S8x1024x32x32 .f32) (ix4 n k a b))
      (Fin.ext (by dsimp only; omega)) (Fin.ext (by dsimp only; omega)))
  · refine Finset.sum_congr rfl fun k _ => congrArg₂ (· * ·) (?_ : _ = xin U n k y x 1 1) rfl
    unfold xin
    exact eq_dite (by omega) (fun hq => congrArg₂ (fun a b => (U (Proc.devRef .tc main_arg0) : Vec Ideal S8x1024x32x32 .f32) (ix4 n k a b))
      (Fin.ext (by dsimp only; omega)) (Fin.ext (by dsimp only; omega)))
  · refine Finset.sum_congr rfl fun k _ => congrArg₂ (· * ·) (?_ : _ = xin U n k y x 1 2) rfl
    unfold xin
    exact dite_eq (by omega) pad_word (fun hp hq => congrArg₂ (fun a b => (U (Proc.devRef .tc main_arg0) : Vec Ideal S8x1024x32x32 .f32) (ix4 n k a b))
      (Fin.ext (by dsimp only; omega)) (Fin.ext (by dsimp only; omega)))
  · refine Finset.sum_congr rfl fun k _ => congrArg₂ (· * ·) (?_ : _ = xin U n k y x 2 0) rfl
    unfold xin
    exact dite_eq (by omega) pad_word (fun hp hq => congrArg₂ (fun a b => (U (Proc.devRef .tc main_arg0) : Vec Ideal S8x1024x32x32 .f32) (ix4 n k a b))
      (Fin.ext (by dsimp only; omega)) (Fin.ext (by dsimp only; omega)))
  · refine Finset.sum_congr rfl fun k _ => congrArg₂ (· * ·) (?_ : _ = xin U n k y x 2 1) rfl
    unfold xin
    exact dite_eq (by omega) pad_word (fun hp hq => congrArg₂ (fun a b => (U (Proc.devRef .tc main_arg0) : Vec Ideal S8x1024x32x32 .f32) (ix4 n k a b))
      (Fin.ext (by dsimp only; omega)) (Fin.ext (by dsimp only; omega)))
  · refine Finset.sum_congr rfl fun k _ => congrArg₂ (· * ·) (?_ : _ = xin U n k y x 2 2) rfl
    unfold xin
    exact dite_eq (by omega) pad_word (fun hp hq => congrArg₂ (fun a b => (U (Proc.devRef .tc main_arg0) : Vec Ideal S8x1024x32x32 .f32) (ix4 n k a b))
      (Fin.ext (by dsimp only; omega)) (Fin.ext (by dsimp only; omega)))

/-- The anchor literal at a row and a column. -/
theorem cst_at (a : Fin 9216) (q : Fin 4) : (after opsA U (Proc.devRef .tc main_cst) : Vec Ideal S9216x4 .f32) (ix2 a q)
    = Ideal.ofBits .f32 (lit0t (a.val * 4 + q.val)) := by
  after_reads_at
  exact congrArg (fun i => Ideal.ofBits .f32 (lit0t i)) (Shape.rowMajor_val_two (d := ![9216, 4]) (ix2 a q))

end Cert.ReferenceIdeal.Own

end
-- ==== Proof.Own.RefD.lean ====
/- The last stretch of the reference: the four results at an index, from the box rows and the anchors. -/
module

public import proofs.«01_k».proof.Proof.Own.RefRun
public import Idealize.ShloMosaic.Lib.Pointwise
public import Idealize.ShloMosaic.Lib.StableHlo.ReadAt

@[expose] public section

set_option maxRecDepth 16384

noncomputable section

namespace Cert.ReferenceIdeal.Own

open Cert.ReferenceIdeal Cert.ReferenceIdeal.Gen Idealize.ShloMosaic Idealize.ShloMosaic.TcCoe Idealize.ShloMosaic.StableHlo

variable (U : Valuation τ sig (Elt Ideal))

variable (n : Fin 8) (a : Fin 9216)

/-- Row `a` of image `n` in the flat list of boxes. -/
def flat : Fin 73728 := ⟨n.val * 9216 + a.val, by omega⟩

/-- The box rows. -/
def box (q : Fin 4) : EReal := (U (Proc.devRef .tc main_v73) : Vec Ideal S73728x4 .f32) (ix2 (flat n a) q)

/-- Anchor widths. -/
def wid : EReal := (U (Proc.devRef .tc main_v84) : Vec Ideal S73728 .f32) (ix1 (flat n a))
/-- Anchor heights. -/
def hei : EReal := (U (Proc.devRef .tc main_v86) : Vec Ideal S73728 .f32) (ix1 (flat n a))
/-- Anchor centres, across. -/
def cex : EReal := (U (Proc.devRef .tc main_v89) : Vec Ideal S73728 .f32) (ix1 (flat n a))
/-- Anchor centres, down. -/
def cey : EReal := (U (Proc.devRef .tc main_v92) : Vec Ideal S73728 .f32) (ix1 (flat n a))

/-- Column by column, what the stack of four columns holds. -/
theorem stack4_0 (u0 u1 u2 u3 : Vec Ideal S73728x1 .f32) (b : Fin 73728) : stack4 (F := Ideal) u0 u1 u2 u3 (ix2 b 0) = u0 (ix2 b 0) := by
  pointwise [stack4]

/-- The second column of four stacked. -/
theorem stack4_1 (u0 u1 u2 u3 : Vec Ideal S73728x1 .f32) (b : Fin 73728) : stack4 (F := Ideal) u0 u1 u2 u3 (ix2 b 1) = u1 (ix2 b 0) := by
  pointwise [stack4]

/-- The third column. -/
theorem stack4_2 (u0 u1 u2 u3 : Vec Ideal S73728x1 .f32) (b : Fin 73728) : stack4 (F := Ideal) u0 u1 u2 u3 (ix2 b 2) = u2 (ix2 b 0) := by
  pointwise [stack4]

/-- The fourth column. -/
theorem stack4_3 (u0 u1 u2 u3 : Vec Ideal S73728x1 .f32) (b : Fin 73728) : stack4 (F := Ideal) u0 u1 u2 u3 (ix2 b 3) = u3 (ix2 b 0) := by
  pointwise [stack4]

/-- The decoded left edge. -/
theorem v120_0 :
    (after opsD U (Proc.devRef .tc main_v120) : Vec Ideal S8x9216x4 .f32) (ix3 n a 0)
      = box U n a 0 * wid U n a + cex U n a - Ideal.div (wid U n a * Ideal.exp (box U n a 2)) (Ideal.ofBits .f32 0x40000000#32) := by
  unfold box wid cex flat
  after_reads_at
  refine (stack4_0 _ _ _ _ _).trans ?_
  after_reads_at

/-- The decoded upper edge. -/
theorem v120_1 :
    (after opsD U (Proc.devRef .tc main_v120) : Vec Ideal S8x9216x4 .f32) (ix3 n a 1)
      = box U n a 1 * hei U n a + cey U n a - Ideal.div (hei U n a * Ideal.exp (box U n a 3)) (Ideal.ofBits .f32 0x40000000#32) := by
  unfold box hei cey flat
  after_reads_at
  refine (stack4_1 _ _ _ _ _).trans ?_
  after_reads_at

/-- The decoded width. -/
theorem v120_2 :
    (after opsD U (Proc.devRef .tc main_v120) : Vec Ideal S8x9216x4 .f32) (ix3 n a 2)
      = wid U n a * Ideal.exp (box U n a 2) := by
  unfold box wid flat
  after_reads_at
  refine (stack4_2 _ _ _ _ _).trans ?_
  after_reads_at

/-- The decoded height. -/
theorem v120_3 :
    (after opsD U (Proc.devRef .tc main_v120) : Vec Ideal S8x9216x4 .f32) (ix3 n a 3)
      = hei U n a * Ideal.exp (box U n a 3) := by
  unfold box hei flat
  after_reads_at
  refine (stack4_3 _ _ _ _ _).trans ?_
  after_reads_at

/-- The box rows. -/
theorem v121_at (q : Fin 4) :
    (after opsD U (Proc.devRef .tc main_v121) : Vec Ideal S8x9216x4 .f32) (ix3 n a q) = box U n a q := by
  unfold box flat
  after_reads_at

/-- The object rows. -/
theorem v122_at (p : Fin 1024) (k : Fin 9) (q : Fin 2) :
    (after opsD U (Proc.devRef .tc main_v122) : Vec Ideal S8x9216x2 .f32) (ix3 n ⟨9 * p.val + k.val, by omega⟩ q)
      = (U (Proc.devRef .tc main_v72) : Vec Ideal S8x32x32x9x2 .f32) (ix5 n ⟨p.val / 32, by omega⟩ ⟨p.val % 32, by omega⟩ k q) := by
  after_reads_at
  exact congrArg₂ (fun y x => (U (Proc.devRef .tc main_v72) : Vec Ideal S8x32x32x9x2 .f32) (ix5 n y x k q))
    (Fin.ext (by dsimp only; omega)) (Fin.ext (by dsimp only; omega))

/-- The anchors. -/
theorem v123_at (q : Fin 4) :
    (after opsD U (Proc.devRef .tc main_v123) : Vec Ideal S8x9216x4 .f32) (ix3 n a q)
      = (U (Proc.devRef .tc main_v78) : Vec Ideal S73728x4 .f32) (ix2 (flat n a) q) := by
  unfold flat
  after_reads_at

end Cert.ReferenceIdeal.Own

end
-- ==== Proof.Own.RefB.lean ====
/- The two 1×1 convolutions of the reference, laid out as rows of boxes. -/
module

public import proofs.«01_k».proof.Proof.Own.RefD
public import Idealize.ShloMosaic.Lib.Pointwise
public import Idealize.ShloMosaic.Lib.StableHlo.ReadAt

@[expose] public section

set_option maxRecDepth 16384

noncomputable section

namespace Cert.ReferenceIdeal.Own

open Cert.ReferenceIdeal Cert.ReferenceIdeal.Gen Idealize.ShloMosaic Idealize.ShloMosaic.TcCoe Idealize.ShloMosaic.StableHlo

variable (U : Valuation τ sig (Elt Ideal))

/-- The 3×3 convolution's result. -/
def cv (n : Fin 8) (h : Fin 256) (y x : Fin 32) : EReal := (U (Proc.devRef .tc main_v56) : Vec Ideal S8x256x32x32 .f32) (ix4 n h y x)
/-- The weights and biases of the boxes. -/
def wb (r : Fin 36) (h : Fin 256) : EReal := (U (Proc.devRef .tc main_arg3) : Vec Ideal S36x256x1x1 .f32) (ix4 r h 0 0)
def bb (r : Fin 36) : EReal := (U (Proc.devRef .tc main_arg4) : Vec Ideal S36 .f32) (ix1 r)
/-- The weights and biases of the objectness. -/
def wo (r : Fin 18) (h : Fin 256) : EReal := (U (Proc.devRef .tc main_arg5) : Vec Ideal S18x256x1x1 .f32) (ix4 r h 0 0)
def bo (r : Fin 18) : EReal := (U (Proc.devRef .tc main_arg6) : Vec Ideal S18 .f32) (ix1 r)

/-- The box convolution laid out by box. -/
theorem v73_at (n : Fin 8) (p : Fin 1024) (k : Fin 9) (q : Fin 4) :
    (after opsB U (Proc.devRef .tc main_v73) : Vec Ideal S73728x4 .f32) (ix2 (flat n ⟨9 * p.val + k.val, by omega⟩) q)
      = (∑ h : Fin 256, cv U n h ⟨p.val / 32, by omega⟩ ⟨p.val % 32, by omega⟩ * wb U ⟨k.val * 4 + q.val, by omega⟩ h)
        + bb U ⟨k.val * 4 + q.val, by omega⟩ := by
  unfold cv wb bb flat
  have e1 : ∀ h, (⟨(n.val * 9216 + (9 * p.val + k.val)) / 288 % 32, h⟩ : Fin 32) = ⟨p.val / 32, by omega⟩ := fun h => Fin.ext (by dsimp only; omega)
  have e2 : ∀ h, (⟨(n.val * 9216 + (9 * p.val + k.val)) / 9 % 32, h⟩ : Fin 32) = ⟨p.val % 32, by omega⟩ := fun h => Fin.ext (by dsimp only; omega)
  after_reads_at
  simp only [e1, e2]

/-- The object convolution laid out by box. -/
theorem v72_at (n : Fin 8) (p : Fin 1024) (k : Fin 9) (q : Fin 2) :
    (after opsB U (Proc.devRef .tc main_v72) : Vec Ideal S8x32x32x9x2 .f32) (ix5 n ⟨p.val / 32, by omega⟩ ⟨p.val % 32, by omega⟩ k q)
      = (∑ h : Fin 256, cv U n h ⟨p.val / 32, by omega⟩ ⟨p.val % 32, by omega⟩ * wo U ⟨k.val * 2 + q.val, by omega⟩ h)
        + bo U ⟨k.val * 2 + q.val, by omega⟩ := by
  unfold cv wo bo
  after_reads_at

end Cert.ReferenceIdeal.Own

end
-- ==== Proof.Own.RefC.lean ====
/- The anchors of the reference: sizes and centres at a row of the flat list. -/
module

public import proofs.«01_k».proof.Proof.Own.RefD
public import Idealize.ShloMosaic.Lib.Pointwise
public import Idealize.ShloMosaic.Lib.StableHlo.ReadAt

@[expose] public section

set_option maxRecDepth 16384

noncomputable section

namespace Cert.ReferenceIdeal.Own

open Cert.ReferenceIdeal Cert.ReferenceIdeal.Gen Idealize.ShloMosaic Idealize.ShloMosaic.TcCoe Idealize.ShloMosaic.StableHlo

variable (U : Valuation τ sig (Elt Ideal))

variable (n : Fin 8) (a : Fin 9216)

/-- The anchors' table. -/
def anc (a : Fin 9216) (q : Fin 4) : EReal := (U (Proc.devRef .tc main_cst) : Vec Ideal S9216x4 .f32) (ix2 a q)

/-- A flat row of the repeated list lies at its own anchor. -/
theorem flat_mod (h : (n.val * 9216 + a.val) % 9216 < 9216) : (⟨(n.val * 9216 + a.val) % 9216, h⟩ : Fin 9216) = a :=
  Fin.ext (by dsimp only; omega)

/-- A row of the repeated anchors. -/
theorem v78_at (q : Fin 4) :
    (after opsC U (Proc.devRef .tc main_v78) : Vec Ideal S73728x4 .f32) (ix2 (flat n a) q) = anc U a q := by
  unfold anc flat
  after_reads_at

/-- An anchor's width. -/
theorem v84_at :
    (after opsC U (Proc.devRef .tc main_v84) : Vec Ideal S73728 .f32) (ix1 (flat n a)) = anc U a 2 := by
  unfold anc flat
  after_reads_at
  rw [flat_mod]

/-- An anchor's height. -/
theorem v86_at :
    (after opsC U (Proc.devRef .tc main_v86) : Vec Ideal S73728 .f32) (ix1 (flat n a)) = anc U a 3 := by
  unfold anc flat
  after_reads_at
  rw [flat_mod]

/-- An anchor's centre across. -/
theorem v89_at :
    (after opsC U (Proc.devRef .tc main_v89) : Vec Ideal S73728 .f32) (ix1 (flat n a)) = anc U a 0 + Ideal.div (anc U a 2) (Ideal.ofBits .f32 0x40000000#32) := by
  unfold anc flat
  after_reads_at
  rw [flat_mod]

/-- An anchor's centre down. -/
theorem v92_at :
    (after opsC U (Proc.devRef .tc main_v92) : Vec Ideal S73728 .f32) (ix1 (flat n a)) = anc U a 1 + Ideal.div (anc U a 3) (Ideal.ofBits .f32 0x40000000#32) := by
  unfold anc flat
  after_reads_at
  rw [flat_mod]

end Cert.ReferenceIdeal.Own

end
-- ==== Proof.Own.Words.lean ====
/- Words of small non-negative multiples of a quarter: what such a 32-bit pattern denotes, and the check, on words alone,
   that the decoding tables of the kernel are the anchors' sizes, centres and half sizes. -/
module

public import Idealize.ShloMosaic.PureOps.Ideal

@[expose] public section

namespace Cert.Words

/-- How many quarters the pattern `n` denotes, its sign left out. -/
def mag (n : Nat) : Nat := if n % 2147483648 = 0 then 0 else (8388608 + n % 8388608) / 2 ^ (148 - n / 8388608 % 256)

/-- The pattern denotes a multiple of a quarter, below 2²². -/
def okw (n : Nat) : Bool :=
  Nat.beq (n % 2147483648) 0 ||
    (Nat.ble 1 (n / 8388608 % 256) && Nat.ble (n / 8388608 % 256) 148 &&
      Nat.beq ((8388608 + n % 8388608) % 2 ^ (148 - n / 8388608 % 256)) 0)

/-- The pattern `n` denotes a non-negative multiple of a quarter. -/
def pos (n : Nat) : Bool := Nat.ble n 2147483647 && okw n

/-- The pattern `n` denotes a non-positive multiple of a quarter. -/
def neg (n : Nat) : Bool := Nat.ble 2147483648 n && okw n

/-- The check at one anchor: `a` the anchor's four words (corner and sizes), `s`, `b`, `m` the four rows' words of the
    scale, shift and exponential tables. -/
def chk (a s b m : Nat → Nat) : Bool :=
  pos (a 0) && pos (a 1) && pos (a 2) && pos (a 3)
    && Nat.beq (s 0) (a 2) && Nat.beq (s 1) (a 3) && Nat.beq (s 2) 0 && Nat.beq (s 3) 0
    && pos (b 0) && pos (b 1) && Nat.beq (2 * mag (b 0)) (2 * mag (a 0) + mag (a 2)) && Nat.beq (2 * mag (b 1)) (2 * mag (a 1) + mag (a 3))
    && Nat.beq (b 2) 0 && Nat.beq (b 3) 0
    && neg (m 0) && neg (m 1) && Nat.beq (2 * mag (m 0)) (mag (a 2)) && Nat.beq (2 * mag (m 1)) (mag (a 3))
    && Nat.beq (m 2) (a 2) && Nat.beq (m 3) (a 3)

end Cert.Words

end
-- ==== Proof.Own.Denote.lean ====
/- What the words of the tables denote, and what the check on words says of the numbers. -/
module

public import proofs.«01_k».proof.Proof.Own.Words
public import Idealize.ShloMosaic.PureOps.Ideal.Laws
public import Mathlib.Tactic.Linarith
public import Mathlib.Tactic.FieldSimp

@[expose] public section

noncomputable section

namespace Cert.Words

open Idealize.ShloMosaic

/-- A word the check accepts denotes its sign times its quarters. -/
theorem val (w : BitVec 32) (h : okw w.toNat = true) :
    Ideal.ofBits .f32 w = (((if 2147483648 ≤ w.toNat then (-1 : ℝ) else 1) * ((mag w.toNat : ℕ) : ℝ) / 4 : ℝ) : EReal) := by
  have hlt := w.isLt
  have hs : (w.extractLsb' (8 + 23) 1 == 1#1) = decide (2147483648 ≤ w.toNat) := by
    rw [Bool.eq_iff_iff, beq_iff_eq, decide_eq_true_iff, ← BitVec.toNat_inj, BitVec.extractLsb'_toNat, Nat.shiftRight_eq_div_pow,
      BitVec.toNat_ofNat]
    omega
  have he : (w.extractLsb' 23 8).toNat = w.toNat / 8388608 % 256 := by
    rw [BitVec.extractLsb'_toNat, Nat.shiftRight_eq_div_pow]
  have hf : (w.extractLsb' 0 23).toNat = w.toNat % 8388608 := by
    rw [BitVec.extractLsb'_toNat, Nat.shiftRight_eq_div_pow]; omega
  show Ideal.ieee 8 23 w = _
  unfold Ideal.ieee
  dsimp only
  rw [hs, he, hf]
  generalize w.toNat = n at *
  unfold mag
  simp only [okw, Bool.or_eq_true, Bool.and_eq_true, Nat.beq_eq, Nat.ble_eq] at h
  by_cases hz : n % 2147483648 = 0
  · have h1 : n / 8388608 % 256 = 0 := by omega
    have h2 : n % 8388608 = 0 := by omega
    rw [h1, h2, if_neg (by decide), if_pos rfl, if_pos hz]
    simp
  · obtain ⟨⟨h1, h2⟩, h3⟩ := h.resolve_left hz
    rw [if_neg (by omega), if_neg (by omega), if_neg hz]
    generalize n / 8388608 % 256 = e at *
    generalize n % 8388608 = f at *
    obtain ⟨d, hd, rfl⟩ : ∃ d, d ≤ 147 ∧ e = 148 - d := ⟨148 - e, by omega, by omega⟩
    rw [show 148 - (148 - d) = d by omega] at h3 ⊢
    obtain ⟨q, hq⟩ := Nat.dvd_of_mod_eq_zero h3
    rw [show (2 : ℕ) ^ 23 = 8388608 by norm_num, hq, Nat.mul_div_cancel_left q (by positivity)]
    have hx : (((148 - d : ℕ) : ℤ) - (2 ^ (8 - 1) - 1) - ((23 : ℕ) : ℤ)) = -2 - (d : ℤ) := by
      rw [Nat.cast_sub (by omega)]; norm_num; ring
    rw [hx, zpow_sub₀ (by norm_num), zpow_natCast]
    refine congrArg (fun r : ℝ => (r : EReal)) ?_
    have h2d : (2 : ℝ) ^ d ≠ 0 := by positivity
    simp only [decide_eq_true_eq]
    push_cast
    field_simp
    norm_num

/-- A word the check takes for non-negative. -/
theorem pos_val (w : BitVec 32) (h : pos w.toNat = true) : Ideal.ofBits .f32 w = ((((mag w.toNat : ℕ) : ℝ) / 4 : ℝ) : EReal) := by
  simp only [pos, Bool.and_eq_true, Nat.ble_eq] at h
  rw [val w h.2, if_neg (by omega), one_mul]

/-- A word the check takes for non-positive. -/
theorem neg_val (w : BitVec 32) (h : neg w.toNat = true) : Ideal.ofBits .f32 w = ((-(((mag w.toNat : ℕ) : ℝ) / 4) : ℝ) : EReal) := by
  simp only [neg, Bool.and_eq_true, Nat.ble_eq] at h
  rw [val w h.2, if_pos h.1]
  refine congrArg (fun r : ℝ => (r : EReal)) ?_
  ring

/-- The word of zero. -/
theorem zero_val (w : BitVec 32) (h : w.toNat = 0) : Ideal.ofBits .f32 w = 0 := by
  rw [show w = 0#32 from BitVec.eq_of_toNat_eq h, Ideal.ofBits_zero_f32]

/-- The word of two. -/
theorem two_val : Ideal.ofBits .f32 0x40000000#32 = ((2 : ℝ) : EReal) := by
  rw [val _ (by decide)]
  refine congrArg (fun r : ℝ => (r : EReal)) ?_
  rw [if_neg (by decide), show mag (0x40000000#32).toNat = 8 by decide]
  norm_num

/-- Dividing by the word of two is multiplying by a half. -/
theorem div_two (x : EReal) : Ideal.div x (Ideal.ofBits .f32 0x40000000#32) = x * ((1 / 2 : ℝ) : EReal) := by
  rw [two_val, Ideal.div, if_neg (by norm_cast), ← EReal.coe_inv, one_div]

/-- THE CHECK, in numbers: the anchor's corner and sizes are reals, the scale rows are the sizes, the shift rows the centres,
    the exponential rows minus half the sizes and then the sizes. -/
theorem chk_val (a s b m : ℕ → BitVec 32) (h : chk (fun r => (a r).toNat) (fun r => (s r).toNat) (fun r => (b r).toNat) (fun r => (m r).toNat) = true) :
    ∃ x y w v : ℝ, (Ideal.ofBits .f32 (a 0) = (x : EReal) ∧ Ideal.ofBits .f32 (a 1) = (y : EReal) ∧ Ideal.ofBits .f32 (a 2) = (w : EReal) ∧ Ideal.ofBits .f32 (a 3) = (v : EReal))
      ∧ (Ideal.ofBits .f32 (s 0) = (w : EReal) ∧ Ideal.ofBits .f32 (s 1) = (v : EReal) ∧ Ideal.ofBits .f32 (s 2) = 0 ∧ Ideal.ofBits .f32 (s 3) = 0)
      ∧ (Ideal.ofBits .f32 (b 0) = (x : EReal) + (w : EReal) * ((1 / 2 : ℝ) : EReal) ∧ Ideal.ofBits .f32 (b 1) = (y : EReal) + (v : EReal) * ((1 / 2 : ℝ) : EReal) ∧ Ideal.ofBits .f32 (b 2) = 0 ∧ Ideal.ofBits .f32 (b 3) = 0)
      ∧ (Ideal.ofBits .f32 (m 0) = -((w : EReal) * ((1 / 2 : ℝ) : EReal)) ∧ Ideal.ofBits .f32 (m 1) = -((v : EReal) * ((1 / 2 : ℝ) : EReal)) ∧ Ideal.ofBits .f32 (m 2) = (w : EReal) ∧ Ideal.ofBits .f32 (m 3) = (v : EReal)) := by
  simp only [chk, Bool.and_eq_true, Nat.beq_eq] at h
  obtain ⟨⟨⟨⟨⟨⟨⟨⟨⟨⟨⟨⟨⟨⟨⟨⟨⟨⟨⟨a0, a1⟩, a2⟩, a3⟩, s0⟩, s1⟩, s2⟩, s3⟩, b0⟩, b1⟩, b0'⟩, b1'⟩, b2⟩, b3⟩, m0⟩, m1⟩, m0'⟩, m1'⟩, m2⟩, m3⟩ := h
  refine ⟨_, _, _, _, ⟨pos_val _ a0, pos_val _ a1, pos_val _ a2, pos_val _ a3⟩, ⟨?_, ?_, zero_val _ s2, zero_val _ s3⟩,
    ⟨?_, ?_, zero_val _ b2, zero_val _ b3⟩, ?_, ?_, ?_, ?_⟩
  · rw [BitVec.eq_of_toNat_eq s0, pos_val _ a2]
  · rw [BitVec.eq_of_toNat_eq s1, pos_val _ a3]
  · rw [pos_val _ b0, ← EReal.coe_mul, ← EReal.coe_add]
    refine congrArg (fun r : ℝ => (r : EReal)) ?_
    have := congrArg (fun n : ℕ => (n : ℝ)) b0'
    push_cast at this
    linarith
  · rw [pos_val _ b1, ← EReal.coe_mul, ← EReal.coe_add]
    refine congrArg (fun r : ℝ => (r : EReal)) ?_
    have := congrArg (fun n : ℕ => (n : ℝ)) b1'
    push_cast at this
    linarith
  · rw [neg_val _ m0, ← EReal.coe_mul, ← EReal.coe_neg]
    refine congrArg (fun r : ℝ => (r : EReal)) ?_
    have := congrArg (fun n : ℕ => (n : ℝ)) m0'
    push_cast at this
    linarith
  · rw [neg_val _ m1, ← EReal.coe_mul, ← EReal.coe_neg]
    refine congrArg (fun r : ℝ => (r : EReal)) ?_
    have := congrArg (fun n : ℕ => (n : ℝ)) m1'
    push_cast at this
    linarith
  · rw [BitVec.eq_of_toNat_eq m2, pos_val _ a2]
  · rw [BitVec.eq_of_toNat_eq m3, pos_val _ a3]

end Cert.Words

end
-- ==== Proof.Own.RefRows.lean ====
/- The reference's four results, from its arguments. -/
module

public import proofs.«01_k».proof.Proof.Own.RefA
public import proofs.«01_k».proof.Proof.Own.RefB
public import proofs.«01_k».proof.Proof.Own.RefC
public import proofs.«01_k».proof.Proof.Own.Spec
public import proofs.«01_k».proof.Proof.Own.Denote

@[expose] public section

set_option maxRecDepth 16384

noncomputable section

namespace Cert.ReferenceIdeal.Own

open Cert.ReferenceIdeal Cert.ReferenceIdeal.Gen Idealize.ShloMosaic Idealize.ShloMosaic.TcCoe Idealize.ShloMosaic.StableHlo

variable (U : Valuation τ sig (Elt Ideal))

open Cert.Taps

/-- The input, element by element. -/
def rx (n : Fin 8) (k : Fin 1024) (y x : Fin 32) : EReal := (U (Proc.devRef .tc main_arg0) : Vec Ideal S8x1024x32x32 .f32) (ix4 n k y x)

/-- Equal summands, equal sums. -/
theorem to_add {a b c d : EReal} (h : a = c) (h' : b = d) : a + b = c + d := by rw [h, h']
/-- Equal factors, equal products. -/
theorem to_mul {a b c d : EReal} (h : a = c) (h' : b = d) : a * b = c * d := by rw [h, h']
/-- Equal terms, equal differences. -/
theorem to_sub {a b c d : EReal} (h : a = c) (h' : b = d) : a - b = c - d := by rw [h, h']

/-- A tap of the padded image is the masked tap. -/
theorem xin_tap (n : Fin 8) (p : Fin 1024) (o : Fin 9) (k : Fin 1024) :
    xin U n k ⟨p.val / 32, by omega⟩ ⟨p.val % 32, by omega⟩ (o.val / 3) (o.val % 3) = Cert.Spec.tap (rx U) n p o k := by
  unfold xin Cert.Spec.tap
  by_cases h : inside o p
  · rw [if_pos h]
    exact (dif_pos h).trans (congrArg₂ (fun y x => rx U n k y x) (Fin.ext (src_div o p h).symm) (Fin.ext (src_mod o p h).symm))
  · rw [if_neg h]
    exact dif_neg h

/-- The hidden map at a channel and a position, by the taps. -/
theorem cv_at (n : Fin 8) (h : Fin 256) (p : Fin 1024) :
    cv (U1 U) n h ⟨p.val / 32, by omega⟩ ⟨p.val % 32, by omega⟩
      = (∑ o : Fin 9, ∑ k : Fin 1024, Cert.Spec.tap (rx U) n p o k * w1 U h k ⟨o.val / 3, by omega⟩ ⟨o.val % 3, by omega⟩) + b1 U h := by
  refine (v56_at U n h _ _).trans ?_
  exact to_add (Finset.sum_congr rfl fun o _ => Finset.sum_congr rfl fun k _ => to_mul (xin_tap U n p o k) rfl) rfl

/-- The arguments after the first stretch. -/
theorem wb_1 : wb (U1 U) = wb U := by
  funext r h; exact congrFun (after_of_writes_sub opsA U (r := main_arg3) opsA_writes (by decide)) (ix4 r h 0 0 : S36x256x1x1.Idx)
/-- The first stretch leaves the box biases. -/
theorem bb_1 : bb (U1 U) = bb U := by
  funext r; exact congrFun (after_of_writes_sub opsA U (r := main_arg4) opsA_writes (by decide)) (ix1 r : S36.Idx)
/-- The first stretch leaves the object weights. -/
theorem wo_1 : wo (U1 U) = wo U := by
  funext r h; exact congrFun (after_of_writes_sub opsA U (r := main_arg5) opsA_writes (by decide)) (ix4 r h 0 0 : S18x256x1x1.Idx)
/-- The first stretch leaves the object biases. -/
theorem bo_1 : bo (U1 U) = bo U := by
  funext r; exact congrFun (after_of_writes_sub opsA U (r := main_arg6) opsA_writes (by decide)) (ix1 r : S18.Idx)

/-- The box rows. -/
theorem row_box (n : Fin 8) (p : Fin 1024) (k : Fin 9) (q : Fin 4) :
    box (U3 U) n ⟨9 * p.val + k.val, by omega⟩ q = Cert.Spec.out (rx U) (w1 U) (b1 U) (wb U) (bb U) n ⟨k.val * 4 + q.val, by omega⟩ p := by
  refine (congrFun (after_of_writes_sub opsC (U2 U) (r := main_v73) opsC_writes (by decide)) _).trans ?_
  refine (v73_at (U1 U) n p k q).trans ?_
  rw [wb_1, bb_1]
  unfold Cert.Spec.out
  exact to_add (Finset.sum_congr rfl fun h _ => to_mul (cv_at U n h p) rfl) rfl

/-- The objectness rows. -/
theorem row_obj (n : Fin 8) (p : Fin 1024) (k : Fin 9) (q : Fin 2) :
    (U3 U (Proc.devRef .tc main_v72) : Vec Ideal S8x32x32x9x2 .f32) (ix5 n ⟨p.val / 32, by omega⟩ ⟨p.val % 32, by omega⟩ k q)
      = Cert.Spec.out (rx U) (w1 U) (b1 U) (wo U) (bo U) n ⟨k.val * 2 + q.val, by omega⟩ p := by
  refine (congrFun (after_of_writes_sub opsC (U2 U) (r := main_v72) opsC_writes (by decide)) _).trans ?_
  refine (v72_at (U1 U) n p k q).trans ?_
  rw [wo_1, bo_1]
  unfold Cert.Spec.out
  exact to_add (Finset.sum_congr rfl fun h _ => to_mul (cv_at U n h p) rfl) rfl

/-- The anchors. -/
theorem anc_at (a : Fin 9216) (q : Fin 4) : anc (U2 U) a q = Ideal.ofBits .f32 (lit0t (a.val * 4 + q.val)) :=
  (congrFun (after_of_writes_sub opsB (U1 U) (r := main_cst) opsB_writes (by decide)) _).trans (cst_at U a q)

variable (n : Fin 8) (a : Fin 9216)

/-- Result 1, the left edge. -/
theorem res120_0 : (U4 U (Proc.devRef .tc main_v120) : Vec Ideal S8x9216x4 .f32) (ix3 n a 0)
    = box (U3 U) n a 0 * anc (U2 U) a 2 + (anc (U2 U) a 0 + anc (U2 U) a 2 * ((1 / 2 : ℝ) : EReal))
        - anc (U2 U) a 2 * Ideal.exp (box (U3 U) n a 2) * ((1 / 2 : ℝ) : EReal) := by
  refine (v120_0 (U3 U) n a).trans ?_
  rw [Cert.Words.div_two, show wid (U3 U) n a = _ from v84_at (U2 U) n a, show cex (U3 U) n a = _ from v89_at (U2 U) n a, Cert.Words.div_two]

/-- Result 1, the upper edge. -/
theorem res120_1 : (U4 U (Proc.devRef .tc main_v120) : Vec Ideal S8x9216x4 .f32) (ix3 n a 1)
    = box (U3 U) n a 1 * anc (U2 U) a 3 + (anc (U2 U) a 1 + anc (U2 U) a 3 * ((1 / 2 : ℝ) : EReal))
        - anc (U2 U) a 3 * Ideal.exp (box (U3 U) n a 3) * ((1 / 2 : ℝ) : EReal) := by
  refine (v120_1 (U3 U) n a).trans ?_
  rw [Cert.Words.div_two, show hei (U3 U) n a = _ from v86_at (U2 U) n a, show cey (U3 U) n a = _ from v92_at (U2 U) n a, Cert.Words.div_two]

/-- Result 1, the width. -/
theorem res120_2 : (U4 U (Proc.devRef .tc main_v120) : Vec Ideal S8x9216x4 .f32) (ix3 n a 2)
    = anc (U2 U) a 2 * Ideal.exp (box (U3 U) n a 2) := by
  refine (v120_2 (U3 U) n a).trans ?_
  rw [show wid (U3 U) n a = _ from v84_at (U2 U) n a]

/-- Result 1, the height. -/
theorem res120_3 : (U4 U (Proc.devRef .tc main_v120) : Vec Ideal S8x9216x4 .f32) (ix3 n a 3)
    = anc (U2 U) a 3 * Ideal.exp (box (U3 U) n a 3) := by
  refine (v120_3 (U3 U) n a).trans ?_
  rw [show hei (U3 U) n a = _ from v86_at (U2 U) n a]

/-- Result 2: the box rows. -/
theorem res121 (q : Fin 4) : (U4 U (Proc.devRef .tc main_v121) : Vec Ideal S8x9216x4 .f32) (ix3 n a q) = box (U3 U) n a q := v121_at (U3 U) n a q

/-- Result 4: the anchors. -/
theorem res123 (q : Fin 4) : (U4 U (Proc.devRef .tc main_v123) : Vec Ideal S8x9216x4 .f32) (ix3 n a q) = anc (U2 U) a q :=
  (v123_at (U3 U) n a q).trans (v78_at (U2 U) n a q)

end Cert.ReferenceIdeal.Own

end
-- ==== Proof.Own.Tables.Def.lean ====
/- The statement checked of the tables at one anchor: `k` its kind of nine, `p` its position of 1024. -/
module

public import proofs.«01_k».proof.KernelIdeal
public import proofs.«01_k».proof.ReferenceIdeal
public import proofs.«01_k».proof.Proof.Own.Words

@[expose] public section

namespace Cert.Tables

open Cert.Words

/-- The check at anchor `9 p + k`: the reference's anchor row against rows `4 k … 4 k + 3` of the kernel's tables. -/
noncomputable def tab (k p : Nat) : Bool :=
  chk (fun r => (Cert.ReferenceIdeal.lit0t ((9 * p + k) * 4 + r)).toNat) (fun r => (Cert.KernelIdeal.lit0t ((4 * k + r) * 1024 + p)).toNat)
    (fun r => (Cert.KernelIdeal.lit1t ((4 * k + r) * 1024 + p)).toNat) (fun r => (Cert.KernelIdeal.lit2t ((4 * k + r) * 1024 + p)).toNat)

end Cert.Tables

end
-- ==== Proof.Own.Tables.K0.lean ====
/- The tables at the anchors of kind 0. -/
module

public import proofs.«01_k».proof.Proof.Own.Tables.Def

@[expose] public section

namespace Cert.Tables

/-- The check holds at every position of a 32 × 32 map, for this kind. -/
theorem tab0 : ∀ a, a < 32 → ∀ b, b < 32 → tab 0 (a * 32 + b) = true := by decide +kernel

end Cert.Tables

end
-- ==== Proof.Own.Tables.K1.lean ====
/- The tables at the anchors of kind 1. -/
module

public import proofs.«01_k».proof.Proof.Own.Tables.Def

@[expose] public section

namespace Cert.Tables

/-- The check holds at every position of a 32 × 32 map, for this kind. -/
theorem tab1 : ∀ a, a < 32 → ∀ b, b < 32 → tab 1 (a * 32 + b) = true := by decide +kernel

end Cert.Tables

end
-- ==== Proof.Own.Tables.K2.lean ====
/- The tables at the anchors of kind 2. -/
module

public import proofs.«01_k».proof.Proof.Own.Tables.Def

@[expose] public section

namespace Cert.Tables

/-- The check holds at every position of a 32 × 32 map, for this kind. -/
theorem tab2 : ∀ a, a < 32 → ∀ b, b < 32 → tab 2 (a * 32 + b) = true := by decide +kernel

end Cert.Tables

end
-- ==== Proof.Own.Tables.K3.lean ====
/- The tables at the anchors of kind 3. -/
module

public import proofs.«01_k».proof.Proof.Own.Tables.K0

@[expose] public section

namespace Cert.Tables

/-- The check holds at every position of a 32 × 32 map, for this kind. -/
theorem tab3 : ∀ a, a < 32 → ∀ b, b < 32 → tab 3 (a * 32 + b) = true := by decide +kernel

end Cert.Tables

end
-- ==== Proof.Own.Tables.K4.lean ====
/- The tables at the anchors of kind 4. -/
module

public import proofs.«01_k».proof.Proof.Own.Tables.K1

@[expose] public section

namespace Cert.Tables

/-- The check holds at every position of a 32 × 32 map, for this kind. -/
theorem tab4 : ∀ a, a < 32 → ∀ b, b < 32 → tab 4 (a * 32 + b) = true := by decide +kernel

end Cert.Tables

end
-- ==== Proof.Own.Tables.K5.lean ====
/- The tables at the anchors of kind 5. -/
module

public import proofs.«01_k».proof.Proof.Own.Tables.K2

@[expose] public section

namespace Cert.Tables

/-- The check holds at every position of a 32 × 32 map, for this kind. -/
theorem tab5 : ∀ a, a < 32 → ∀ b, b < 32 → tab 5 (a * 32 + b) = true := by decide +kernel

end Cert.Tables

end
-- ==== Proof.Own.Tables.K6.lean ====
/- The tables at the anchors of kind 6. -/
module

public import proofs.«01_k».proof.Proof.Own.Tables.K3

@[expose] public section

namespace Cert.Tables

/-- The check holds at every position of a 32 × 32 map, for this kind. -/
theorem tab6 : ∀ a, a < 32 → ∀ b, b < 32 → tab 6 (a * 32 + b) = true := by decide +kernel

end Cert.Tables

end
-- ==== Proof.Own.Tables.K7.lean ====
/- The tables at the anchors of kind 7. -/
module

public import proofs.«01_k».proof.Proof.Own.Tables.K4

@[expose] public section

namespace Cert.Tables

/-- The check holds at every position of a 32 × 32 map, for this kind. -/
theorem tab7 : ∀ a, a < 32 → ∀ b, b < 32 → tab 7 (a * 32 + b) = true := by decide +kernel

end Cert.Tables

end
-- ==== Proof.Own.Tables.K8.lean ====
/- The tables at the anchors of kind 8. -/
module

public import proofs.«01_k».proof.Proof.Own.Tables.K5

@[expose] public section

namespace Cert.Tables

/-- The check holds at every position of a 32 × 32 map, for this kind. -/
theorem tab8 : ∀ a, a < 32 → ∀ b, b < 32 → tab 8 (a * 32 + b) = true := by decide +kernel

end Cert.Tables

end
-- ==== Proof.Own.Tables.All.lean ====
/- The tables' check at every anchor, and the numbers it gives. -/
module

public import proofs.«01_k».proof.Proof.Own.Tables.K0
public import proofs.«01_k».proof.Proof.Own.Tables.K1
public import proofs.«01_k».proof.Proof.Own.Tables.K2
public import proofs.«01_k».proof.Proof.Own.Tables.K3
public import proofs.«01_k».proof.Proof.Own.Tables.K4
public import proofs.«01_k».proof.Proof.Own.Tables.K5
public import proofs.«01_k».proof.Proof.Own.Tables.K6
public import proofs.«01_k».proof.Proof.Own.Tables.K7
public import proofs.«01_k».proof.Proof.Own.Tables.K8
public import proofs.«01_k».proof.Proof.Own.Denote

@[expose] public section

namespace Cert.Tables

open Cert.Words Idealize.ShloMosaic

/-- The check at every anchor, the nine modules put together. -/
theorem tab_all (k : Fin 9) (p : Fin 1024) : tab k.val p.val = true := by
  have hp : p.val / 32 * 32 + p.val % 32 = p.val := by omega
  have h1 : p.val / 32 < 32 := by omega
  have h2 : p.val % 32 < 32 := by omega
  rw [← hp]
  match k with
  | 0 => exact tab0 _ h1 _ h2
  | 1 => exact tab1 _ h1 _ h2
  | 2 => exact tab2 _ h1 _ h2
  | 3 => exact tab3 _ h1 _ h2
  | 4 => exact tab4 _ h1 _ h2
  | 5 => exact tab5 _ h1 _ h2
  | 6 => exact tab6 _ h1 _ h2
  | 7 => exact tab7 _ h1 _ h2
  | 8 => exact tab8 _ h1 _ h2

/-- The reference's anchor row `9 p + k`. -/
noncomputable def A (k : Fin 9) (p : Fin 1024) (r : ℕ) : EReal := Ideal.ofBits .f32 (Cert.ReferenceIdeal.lit0t ((9 * p.val + k.val) * 4 + r))
/-- The kernel's scale, shift and exponential tables at row `4 k + r`. -/
noncomputable def S (k : Fin 9) (p : Fin 1024) (r : ℕ) : EReal := Ideal.ofBits .f32 (Cert.KernelIdeal.lit0t ((4 * k.val + r) * 1024 + p.val))
noncomputable def B (k : Fin 9) (p : Fin 1024) (r : ℕ) : EReal := Ideal.ofBits .f32 (Cert.KernelIdeal.lit1t ((4 * k.val + r) * 1024 + p.val))
noncomputable def M (k : Fin 9) (p : Fin 1024) (r : ℕ) : EReal := Ideal.ofBits .f32 (Cert.KernelIdeal.lit2t ((4 * k.val + r) * 1024 + p.val))

/-- The kernel's tables at an anchor, from the reference's anchor: the scale rows are the sizes, the shift rows the centres,
    the exponential rows minus half the sizes and then the sizes. -/
theorem tab_val (k : Fin 9) (p : Fin 1024) :
    (S k p 0 = A k p 2 ∧ S k p 1 = A k p 3 ∧ S k p 2 = 0 ∧ S k p 3 = 0)
      ∧ (B k p 0 = A k p 0 + A k p 2 * ((1 / 2 : ℝ) : EReal) ∧ B k p 1 = A k p 1 + A k p 3 * ((1 / 2 : ℝ) : EReal) ∧ B k p 2 = 0 ∧ B k p 3 = 0)
      ∧ (M k p 0 = -(A k p 2 * ((1 / 2 : ℝ) : EReal)) ∧ M k p 1 = -(A k p 3 * ((1 / 2 : ℝ) : EReal)) ∧ M k p 2 = A k p 2 ∧ M k p 3 = A k p 3) := by
  obtain ⟨x, y, w, v, ⟨a0, a1, a2, a3⟩, ⟨s0, s1, s2, s3⟩, ⟨b0, b1, b2, b3⟩, m0, m1, m2, m3⟩ :=
    chk_val (fun r => Cert.ReferenceIdeal.lit0t ((9 * p.val + k.val) * 4 + r)) (fun r => Cert.KernelIdeal.lit0t ((4 * k.val + r) * 1024 + p.val))
      (fun r => Cert.KernelIdeal.lit1t ((4 * k.val + r) * 1024 + p.val)) (fun r => Cert.KernelIdeal.lit2t ((4 * k.val + r) * 1024 + p.val)) (tab_all k p)
  have e0 : A k p 0 = x := a0
  have e1 : A k p 1 = y := a1
  have e2 : A k p 2 = w := a2
  have e3 : A k p 3 = v := a3
  rw [e0, e1, e2, e3]
  exact ⟨⟨s0, s1, s2, s3⟩, ⟨b0, b1, b2, b3⟩, m0, m1, m2, m3⟩

end Cert.Tables
-- ==== Proof.Own.Agree.lean ====
/- The two programs' four results agree, element by element, at launch memories that agree on the arguments and hold real
   numbers in the input and the three weights. -/
module

public import proofs.«01_k».proof.Proof.Own.KernelRows
public import proofs.«01_k».proof.Proof.Own.RefRows
public import proofs.«01_k».proof.Proof.Own.Tables.All

@[expose] public section

set_option maxRecDepth 16384

noncomputable section

namespace Cert.Agree

open Idealize.ShloMosaic Idealize.ShloMosaic.TcCoe Idealize.ShloMosaic.StableHlo
open Cert.KernelIdeal.Own Cert.ReferenceIdeal.Own Cert.KernelIdeal.Gen

/-- An index of a result, by image, position, anchor kind and column. -/
theorem split4 (j : Cert.KernelIdeal.S8x9216x4.Idx) : ∃ (n : Fin 8) (p : Fin 1024) (k : Fin 9) (q : Fin 4), j = ix3 n ⟨9 * p.val + k.val, by omega⟩ q := by
  obtain ⟨n, a, q, rfl⟩ : ∃ (n : Fin 8) (a : Fin 9216) (q : Fin 4), j = ix3 n a q := ⟨j 0, j 1, j 2, by idx_vars j⟩
  exact ⟨n, ⟨a.val / 9, by omega⟩, ⟨a.val % 9, by omega⟩, q, congrArg (fun a => ix3 n a q) (Fin.ext (by dsimp only; omega))⟩

/-- An index of the object result is an image, a position, a kind and a column. -/
theorem split2 (j : Cert.KernelIdeal.S8x9216x2.Idx) : ∃ (n : Fin 8) (p : Fin 1024) (k : Fin 9) (q : Fin 2), j = ix3 n ⟨9 * p.val + k.val, by omega⟩ q := by
  obtain ⟨n, a, q, rfl⟩ : ∃ (n : Fin 8) (a : Fin 9216) (q : Fin 2), j = ix3 n a q := ⟨j 0, j 1, j 2, by idx_vars j⟩
  exact ⟨n, ⟨a.val / 9, by omega⟩, ⟨a.val % 9, by omega⟩, q, congrArg (fun a => ix3 n a q) (Fin.ext (by dsimp only; omega))⟩

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (U : Valuation Cert.ReferenceIdeal.τ Cert.ReferenceIdeal.sig (Elt Ideal))

/-- The two launches hold the same arguments. -/
structure Same : Prop where
  x : rx U = ax (W0 m ρ c)
  w : w1 U = aw (W0 m ρ c)
  b : b1 U = ab (W0 m ρ c)
  wb : wb U = awb (W0 m ρ c)
  bb : bb U = abb (W0 m ρ c)
  wo : wo U = awo (W0 m ρ c)
  bo : bo U = abo (W0 m ρ c)

/-- The kernel's input and weights are real. -/
structure Real : Prop where
  x : ∀ n k y x, ∃ r : ℝ, ax (W0 m ρ c) n k y x = r
  w : ∀ h k a b, ∃ r : ℝ, aw (W0 m ρ c) h k a b = r
  wb : ∀ r h, ∃ s : ℝ, awb (W0 m ρ c) r h = s
  wo : ∀ r h, ∃ s : ℝ, awo (W0 m ρ c) r h = s

variable {m ρ c U} (hs : Same m ρ c U) (hr : Real m ρ c)
include hs hr

/-- Box row `4 k + q`: what the reference's flat list holds is the kernel's row. -/
theorem box_eq (n : Fin 8) (p : Fin 1024) (k : Fin 9) (q : Fin 4) :
    box (U3 U) n ⟨9 * p.val + k.val, by omega⟩ q = rowV (V2 m ρ) c n ⟨4 * k.val + q.val, by omega⟩ p := by
  refine (row_box U n p k q).trans (Eq.trans ?_ (row_lo m ρ c hr.x hr.w hr.wb n ⟨4 * k.val + q.val, by omega⟩ p).symm)
  rw [hs.x, hs.w, hs.b, hs.wb, hs.bb]
  exact congrArg (fun r => Cert.Spec.out (ax (W0 m ρ c)) (aw (W0 m ρ c)) (ab (W0 m ρ c)) (awb (W0 m ρ c)) (abb (W0 m ρ c)) n r p)
    (Fin.ext (by dsimp only; omega))

/-- Result 2. -/
theorem second : (U4 U (Proc.devRef .tc Cert.ReferenceIdeal.main_v121) : Vec Ideal Cert.KernelIdeal.S8x9216x4 .f32)
    = W4 m ρ c (Proc.devRef .tc Cert.KernelIdeal.main_v14) := by
  funext j
  obtain ⟨n, p, k, q, rfl⟩ := split4 j
  exact (res121 U n _ q).trans ((box_eq hs hr n p k q).trans (res14 m ρ c n p k q).symm)

/-- Result 3. -/
theorem third : (U4 U (Proc.devRef .tc Cert.ReferenceIdeal.main_v122) : Vec Ideal Cert.KernelIdeal.S8x9216x2 .f32)
    = W4 m ρ c (Proc.devRef .tc Cert.KernelIdeal.main_v16) := by
  funext j
  obtain ⟨n, p, k, q, rfl⟩ := split2 j
  refine (v122_at (U3 U) n p k q).trans ((row_obj U n p k q).trans (Eq.trans ?_ (res16 m ρ c n p k q).symm))
  refine Eq.trans ?_ (row_hi m ρ c hr.x hr.w hr.wo n ⟨2 * k.val + q.val, by omega⟩ p).symm
  rw [hs.x, hs.w, hs.b, hs.wo, hs.bo]
  exact congrArg (fun r => Cert.Spec.out (ax (W0 m ρ c)) (aw (W0 m ρ c)) (ab (W0 m ρ c)) (awo (W0 m ρ c)) (abo (W0 m ρ c)) n r p)
    (Fin.ext (by dsimp only; omega))

omit hs hr in
/-- Result 4: the anchors. -/
theorem fourth : (U4 U (Proc.devRef .tc Cert.ReferenceIdeal.main_v123) : Vec Ideal Cert.KernelIdeal.S8x9216x4 .f32)
    = W4 m ρ c (Proc.devRef .tc Cert.KernelIdeal.main_v20) := by
  funext j
  obtain ⟨n, p, k, q, rfl⟩ := split4 j
  refine (res123 U n _ q).trans ((anc_at U _ q).trans (Eq.trans ?_ (res20 m ρ c n _ q).symm))
  rw [Cert.Anchors.anchors_eq]

omit hs hr in
/-- The reference's anchor row, by the name the tables' check uses. -/
theorem anc_A (p : Fin 1024) (k : Fin 9) (q : Fin 4) : anc (U2 U) ⟨9 * p.val + k.val, by omega⟩ q = Cert.Tables.A k p q.val := anc_at U _ q

omit hs hr in
/-- A decoded row of the kernel at column `q`; its exponential is that of row `s`. -/
theorem dec_q (reg : Fin 54 → Fin 1024 → EReal) (p : Fin 1024) (k : Fin 9) (q s : Fin 4) (h : s.val = if q.val < 2 then q.val + 2 else q.val) :
    dec reg (W1 m ρ c (Proc.devRef .tc Cert.KernelIdeal.main_cst)) (W1 m ρ c (Proc.devRef .tc Cert.KernelIdeal.main_cst_0))
        (W1 m ρ c (Proc.devRef .tc Cert.KernelIdeal.main_cst_1)) (W1 m ρ c (Proc.devRef .tc Cert.KernelIdeal.main_cst_2)) ⟨4 * k.val + q.val, by omega⟩ p
      = reg ⟨4 * k.val + q.val, by omega⟩ p * Cert.Tables.S k p q.val + Cert.Tables.B k p q.val
        + Cert.Tables.M k p q.val * Ideal.exp (reg ⟨4 * k.val + s.val, by omega⟩ p) := by
  refine (dec_at m ρ c reg ⟨4 * k.val + q.val, by omega⟩ p).trans ?_
  have e : (⟨(perm ⟨4 * k.val + q.val, by omega⟩).val, by omega⟩ : Fin 54) = ⟨4 * k.val + s.val, by omega⟩ := by
    refine Fin.ext ?_
    unfold perm
    dsimp only
    rw [h]
    have : (4 * k.val + q.val) % 4 = q.val := by omega
    rw [this]
    split <;> omega
  rw [e]
  rfl

omit hs hr in
/-- A corner's row. -/
theorem corner_eq (t e : EReal) {x w S B M : EReal} (hS : S = w) (hB : B = x + w * ((1 / 2 : ℝ) : EReal)) (hM : M = -(w * ((1 / 2 : ℝ) : EReal))) :
    t * w + (x + w * ((1 / 2 : ℝ) : EReal)) - w * Ideal.exp e * ((1 / 2 : ℝ) : EReal) = t * S + B + M * Ideal.exp e := by
  rw [hS, hB, hM]
  exact (Cert.Maths.corner t (Ideal.exp e) x w _).symm

omit hs hr in
/-- A size's row. -/
theorem size_eq (t e : EReal) {w S B M : EReal} (hS : S = 0) (hB : B = 0) (hM : M = w) :
    w * Ideal.exp e = t * S + B + M * Ideal.exp e := by
  rw [hS, hB, hM, mul_zero, zero_add, zero_add]

/-- Result 1: the decoded boxes. -/
theorem first : (U4 U (Proc.devRef .tc Cert.ReferenceIdeal.main_v120) : Vec Ideal Cert.KernelIdeal.S8x9216x4 .f32)
    = W4 m ρ c (Proc.devRef .tc Cert.KernelIdeal.main_v12) := by
  funext j
  obtain ⟨n, p, k, q, rfl⟩ := split4 j
  obtain ⟨⟨s0, s1, s2, s3⟩, ⟨b0, b1, b2, b3⟩, m0, m1, m2, m3⟩ := Cert.Tables.tab_val k p
  have f : ∀ q : Fin 4, box (U3 U) n ⟨9 * p.val + k.val, by omega⟩ q = rowV (V2 m ρ) c n ⟨4 * k.val + q.val, by omega⟩ p := box_eq hs hr n p k
  match q with
  | 0 =>
    refine (res120_0 U n _).trans (Eq.trans ?_ ((res12 m ρ c n p k 0).trans (dec_q (rowV (V2 m ρ) c n) p k 0 2 rfl)).symm)
    rw [f 0, f 2, anc_A p k 0, anc_A p k 2]
    exact corner_eq _ _ s0 b0 m0
  | 1 =>
    refine (res120_1 U n _).trans (Eq.trans ?_ ((res12 m ρ c n p k 1).trans (dec_q (rowV (V2 m ρ) c n) p k 1 3 rfl)).symm)
    rw [f 1, f 3, anc_A p k 1, anc_A p k 3]
    exact corner_eq _ _ s1 b1 m1
  | 2 =>
    refine (res120_2 U n _).trans (Eq.trans ?_ ((res12 m ρ c n p k 2).trans (dec_q (rowV (V2 m ρ) c n) p k 2 2 rfl)).symm)
    rw [f 2, anc_A p k 2]
    exact size_eq _ _ s2 b2 m2
  | 3 =>
    refine (res120_3 U n _).trans (Eq.trans ?_ ((res12 m ρ c n p k 3).trans (dec_q (rowV (V2 m ρ) c n) p k 3 3 rfl)).symm)
    rw [f 3, anc_A p k 3]
    exact size_eq _ _ s3 b3 m3

end Cert.Agree

end
-- ==== Proof.Own.Finite.lean ====
/- The precondition, element by element: the input and the three weights hold real numbers. -/
module

public import proofs.«01_k».proof.Pre_finite_factors
public import Idealize.ShloMosaic.Lib.ReduceAll
public import Idealize.ShloMosaic.Lib.Affine
public import Idealize.ShloMosaic.Lib.Pointwise

@[expose] public section

noncomputable section

namespace Cert.Pre_finite_factors.Own

open Cert.Pre_finite_factors Cert.Pre_finite_factors.Facts Idealize.ShloMosaic

variable [Facts]

instance : Subsingleton S_.Idx := ⟨fun a b => funext fun k => k.elim0⟩

/-- A value whose magnitude is below the word of infinity is a real number. -/
theorem real_of_lt (x : Ideal .f32) (h : FloatOps.cmpf .olt (FloatOps.hostAbsf x) (FloatOps.ofBits (F := Ideal) .f32 0x7F800000#32) = 1#1) :
    ∃ r : ℝ, (x : EReal) = r := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  induction x using EReal.rec with
  | coe r => exact ⟨r, rfl⟩
  | bot => simp [Ideal.cmp] at h'
  | top => simp [Ideal.cmp] at h'

/-- The four arrays. -/
theorem reals (a0 : FVec Ideal S8x1024x32x32 .f32) (a1 : FVec Ideal S256x1024x3x3 .f32) (a2 : FVec Ideal S256 .f32) (a3 : FVec Ideal S36x256x1x1 .f32)
    (a4 : FVec Ideal S36 .f32) (a5 : FVec Ideal S18x256x1x1 .f32) (a6 : FVec Ideal S18 .f32)
    (h : fn (F := Ideal) a0 a1 a2 a3 a4 a5 a6 = fun _ => 1#1) :
    (∀ i, ∃ r : ℝ, (a0 i : EReal) = r) ∧ (∀ i, ∃ r : ℝ, (a1 i : EReal) = r) ∧ (∀ i, ∃ r : ℝ, (a3 i : EReal) = r) ∧ (∀ i, ∃ r : ℝ, (a5 i : EReal) = r) := by
  have h := congrFun h (fun k => k.elim0)
  dsimp only [fn, fn_part1] at h
  obtain ⟨h, h5⟩ := IntOp.andi_eq_one.1 h
  obtain ⟨h, h3⟩ := IntOp.andi_eq_one.1 h
  obtain ⟨h0, h1⟩ := IntOp.andi_eq_one.1 h
  exact ⟨fun i => real_of_lt _ (Host.reduce_andi_all _ _ _ _ _ h0 i), fun i => real_of_lt _ (Host.reduce_andi_all _ _ _ _ _ h1 i),
    fun i => real_of_lt _ (Host.reduce_andi_all _ _ _ _ _ h3 i), fun i => real_of_lt _ (Host.reduce_andi_all _ _ _ _ _ h5 i)⟩

end Cert.Pre_finite_factors.Own

end
-- ==== Proof.Own.Value.lean ====
/- The value claim: the kernel program and the reference run and end with equal results. -/
module

public import proofs.«01_k».proof.Defs
public import proofs.«01_k».proof.Proof.Own.KernelRun
public import proofs.«01_k».proof.Proof.Own.Agree
public import proofs.«01_k».proof.Proof.Own.Finite

@[expose] public section

set_option maxRecDepth 16384

noncomputable section

namespace Cert.Agree

open Idealize.ShloMosaic Idealize.ShloMosaic.TcCoe Idealize.ShloMosaic.StableHlo Idealize.SL.Sem
open Cert.KernelIdeal.Own Cert.ReferenceIdeal.Own Cert.KernelIdeal.Gen

/-- From launch memories that agree on the seven arguments, the input and the weights being real, both programs run, leave their
    arguments as they were, and end with the same four results. -/
theorem algebraic [Cert.Pre_finite_factors.Facts] : Cert.algebraic_KernelIdeal_ReferenceIdeal_pre_finite_factors := by
  intro m g m' g' hpre hargs
  have hr : ∀ c, Real m g c := fun c => by
    obtain ⟨h0, h1, h3, h5⟩ := Cert.Pre_finite_factors.Own.reals _ _ _ _ _ _ _ (hpre c)
    exact ⟨fun n k y x => h0 (ix4 n k y x), fun h k a b => h1 (ix4 h k a b), fun r h => h3 (ix4 r h 0 0), fun r h => h5 (ix4 r h 0 0)⟩
  have hs : ∀ c, Same m g c (launchContents m' c) := fun c => by
    obtain ⟨h0, h1, h2, h3, h4, h5, h6⟩ := hargs c
    exact ⟨by funext n k y x; exact congrFun h0 (ix4 n k y x), by funext h k a b; exact congrFun h1 (ix4 h k a b),
      by funext h; exact congrFun h2 (ix1 h), by funext r h; exact congrFun h3 (ix4 r h 0 0), by funext r; exact congrFun h4 (ix1 r),
      by funext r h; exact congrFun h5 (ix4 r h 0 0), by funext r; exact congrFun h6 (ix1 r)⟩
  refine ⟨fun c => W4 m g c (Proc.devRef .tc Cert.KernelIdeal.main_v12), fun c => W4 m g c (Proc.devRef .tc Cert.KernelIdeal.main_v14),
    fun c => W4 m g c (Proc.devRef .tc Cert.KernelIdeal.main_v16), fun c => W4 m g c (Proc.devRef .tc Cert.KernelIdeal.main_v20),
    run_results m g, ?_⟩
  exact (θ_run Cert.ReferenceIdeal.defs _ _).mono (fun r h c =>
    ⟨(h c _).trans (first (hs c) (hr c)), (h c _).trans (second (hs c) (hr c)), (h c _).trans (third (hs c) (hr c)), (h c _).trans fourth,
     (h c _).trans (U4_arg _ Cert.ReferenceIdeal.main_arg0 (by decide) (by decide) (by decide) (by decide)),
     (h c _).trans (U4_arg _ Cert.ReferenceIdeal.main_arg1 (by decide) (by decide) (by decide) (by decide)),
     (h c _).trans (U4_arg _ Cert.ReferenceIdeal.main_arg2 (by decide) (by decide) (by decide) (by decide)),
     (h c _).trans (U4_arg _ Cert.ReferenceIdeal.main_arg3 (by decide) (by decide) (by decide) (by decide)),
     (h c _).trans (U4_arg _ Cert.ReferenceIdeal.main_arg4 (by decide) (by decide) (by decide) (by decide)),
     (h c _).trans (U4_arg _ Cert.ReferenceIdeal.main_arg5 (by decide) (by decide) (by decide) (by decide)),
     (h c _).trans (U4_arg _ Cert.ReferenceIdeal.main_arg6 (by decide) (by decide) (by decide) (by decide))⟩)
    (Cert.ReferenceIdeal.Own.run_all m' g')

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Own.RefFrame
public import proofs.«01_k».proof.Proof.Own.Value
public import Idealize.ShloMosaic.Adequacy
public import Idealize.ShloMosaic.Init

@[expose] public section

noncomputable section

namespace Cert.Proof

open Idealize.ShloMosaic Idealize.SL.Sem Cert.Kernel

/-- The shape relations the precondition's operations take. -/
theorem pre_facts : Cert.Pre_finite_factors.Facts :=
  ⟨by decide, by decide, by decide, by decide, by decide, by decide, by decide, by decide, by decide⟩

/-- All the stated claims: the three frames, the ideal program as the kernel's reading, and the equality of the results. -/
theorem claim : Cert.Claim :=
  ⟨Cert.Kernel.Gen.facts, Cert.KernelIdeal.Gen.facts, Cert.ReferenceIdeal.Gen.facts, pre_facts,
    fun m g _ => Cert.Kernel.Gen.frame m g,
    fun m g _ => Cert.KernelIdeal.Gen.frame m g,
    fun m g _ => Cert.KernelIdeal.Gen.frame m g,
    Cert.ReferenceIdeal.Own.frame,
    haveI := pre_facts; Cert.ReferenceIdeal.Own.frame_pre,
    trivial,
    haveI := pre_facts; Cert.Agree.algebraic⟩

end Cert.Proof

end
